-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132_0) = v0 c
          ∧ r.2.mem ((c.tc : Thread Cert.ReferenceIdeal.nD Cert.ReferenceIdeal.τ).loc Cert.ReferenceIdeal.main_v132_1) = v1 c
          ∧ r.2.mem ((c.tc : Thread Cert.ReferenceIdeal.nD Cert.ReferenceIdeal.τ).loc Cert.ReferenceIdeal.main_v132_2) = v2 c
          ∧ r.2.mem ((c.tc : Thread Cert.ReferenceIdeal.nD Cert.ReferenceIdeal.τ).loc Cert.ReferenceIdeal.main_v132_3) = v3 c
          ∧ r.2.mem ((c.tc : Thread Cert.ReferenceIdeal.nD Cert.ReferenceIdeal.τ).loc Cert.ReferenceIdeal.main_v132_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x8192 : Shape := ⟨3, ![2, 6144, 8192]⟩
abbrev S8192 : Shape := ⟨1, ![8192]⟩
abbrev S8192x1280 : Shape := ⟨2, ![8192, 1280]⟩
abbrev S1280 : Shape := ⟨1, ![1280]⟩
abbrev S2x6144 : Shape := ⟨2, ![2, 6144]⟩
abbrev S_ : Shape := ⟨0, ![]⟩
abbrev S128 : Shape := ⟨1, ![128]⟩
abbrev S1x128 : Shape := ⟨2, ![1, 128]⟩
abbrev S1 : Shape := ⟨1, ![1]⟩
abbrev S12288x8192 : Shape := ⟨2, ![12288, 8192]⟩
abbrev S1x8192 : Shape := ⟨2, ![1, 8192]⟩
abbrev S1x1280 : Shape := ⟨2, ![1, 1280]⟩
abbrev S12288x8x128 : Shape := ⟨3, ![12288, 8, 128]⟩
abbrev S12288x128 : Shape := ⟨2, ![12288, 128]⟩
abbrev S2x512 : Shape := ⟨2, ![2, 512]⟩
abbrev S512x8192 : Shape := ⟨2, ![512, 8192]⟩
abbrev S512x8x128 : Shape := ⟨3, ![512, 8, 128]⟩
abbrev S512x128 : Shape := ⟨2, ![512, 128]⟩
abbrev S8x256 : Shape := ⟨2, ![8, 256]⟩
abbrev S8x128 : Shape := ⟨2, ![8, 128]⟩
abbrev S8 : Shape := ⟨1, ![8]⟩
abbrev S8x1 : Shape := ⟨2, ![8, 1]⟩
abbrev S32x1 : Shape := ⟨2, ![32, 1]⟩
abbrev S32x256 : Shape := ⟨2, ![32, 256]⟩
abbrev S1x256 : Shape := ⟨2, ![1, 256]⟩
abbrev S128x128 : Shape := ⟨2, ![128, 128]⟩
abbrev S2x128 : Shape := ⟨2, ![2, 128]⟩
abbrev S8192x256 : Shape := ⟨2, ![8192, 256]⟩
abbrev S512x256 : Shape := ⟨2, ![512, 256]⟩
abbrev S512x4x128 : Shape := ⟨3, ![512, 4, 128]⟩
abbrev S2048x128 : Shape := ⟨2, ![2048, 128]⟩
abbrev S512x2x128 : Shape := ⟨3, ![512, 2, 128]⟩
abbrev S512x1x128 : Shape := ⟨3, ![512, 1, 128]⟩

abbrev nBuf : Space → Nat
  | .hbm => 17
  | .vmem => 16
  | .smem => 2
  | _ => 0

abbrev bufTy : (tb : Table) → Fin (tcTables nBuf tb) → BufTy
  | .hbm, ⟨0, _⟩ => ⟨S2x6144x8192, .bf16⟩
  | .hbm, ⟨1, _⟩ => ⟨S8192, .bf16⟩
  | .hbm, ⟨2, _⟩ => ⟨S8192x1280, .fp8e4m3⟩
  | .hbm, ⟨3, _⟩ => ⟨S1280, .f32⟩
  | .hbm, ⟨4, _⟩ => ⟨S2x6144, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S12288x8192, .bf16⟩
  | .hbm, ⟨10, _⟩ => ⟨S1x8192, .bf16⟩
  | .hbm, ⟨11, _⟩ => ⟨S1x1280, .f32⟩
  | .hbm, ⟨12, _⟩ => ⟨S12288x8x128, .bf16⟩
  | .hbm, ⟨13, _⟩ => ⟨S12288x128, .bf16⟩
  | .hbm, ⟨14, _⟩ => ⟨S12288x128, .bf16⟩
  | .hbm, ⟨15, _⟩ => ⟨S12288x8192, .fp8e4m3⟩
  | .hbm, ⟨16, _⟩ => ⟨S1, .f32⟩
  | .local _ .vmem, ⟨0, _⟩ => ⟨S2x512, .i32⟩
  | .local _ .vmem, ⟨1, _⟩ => ⟨S2x512, .i32⟩
  | .local _ .vmem, ⟨2, _⟩ => ⟨S512x8192, .bf16⟩
  | .local _ .vmem, ⟨3, _⟩ => ⟨S512x8192, .bf16⟩
  | .local _ .vmem, ⟨4, _⟩ => ⟨S1x8192, .bf16⟩
  | .local _ .vmem, ⟨5, _⟩ => ⟨S8192x1280, .fp8e4m3⟩
  | .local _ .vmem, ⟨6, _⟩ => ⟨S1x1280, .f32⟩
  | .local _ .vmem, ⟨7, _⟩ => ⟨S1x128, .f32⟩
  | .local _ .vmem, ⟨8, _⟩ => ⟨S512x8x128, .bf16⟩
  | .local _ .vmem, ⟨9, _⟩ => ⟨S512x8x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x8192, .fp8e4m3⟩
  | .local _ .vmem, ⟨15, _⟩ => ⟨S512x8192, .fp8e4m3⟩
  | .local _ .smem, ⟨0, _⟩ => ⟨S1, .f32⟩
  | .local _ .smem, ⟨1, _⟩ => ⟨S1, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_stg11_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  v428
def k0_off1 (k0_t1 : Fin k0_t1_loop.trips) (c0_i32_155 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v430 : BitVec 32 := Scalar.addi v429 c0_i32_155
  let v431 : Index := Scalar.indexCast v430
  let c0_156 : Index := 0#32
  ![v431.toNat, 0]
def k0_off2 (k0_t1 : Fin k0_t1_loop.trips) (c0_i32_157 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v440 : BitVec 32 := Scalar.addi v429 c0_i32_157
  let v441 : Index := Scalar.indexCast v440
  let c256_158 : Index := 256#32
  ![v441.toNat, 256]
def k0_off3 (k0_t1 : Fin k0_t1_loop.trips) (c0_i32_159 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v451 : BitVec 32 := Scalar.addi v429 c0_i32_159
  let v452 : Index := Scalar.indexCast v451
  let c512_160 : Index := 512#32
  ![v452.toNat, 512]
def k0_off4 (k0_t1 : Fin k0_t1_loop.trips) (c0_i32_161 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v462 : BitVec 32 := Scalar.addi v429 c0_i32_161
  let v463 : Index := Scalar.indexCast v462
  let c768_162 : Index := 768#32
  ![v463.toNat, 768]
def k0_off5 (k0_t1 : Fin k0_t1_loop.trips) (c0_i32_163 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v473 : BitVec 32 := Scalar.addi v429 c0_i32_163
  let v474 : Index := Scalar.indexCast v473
  let c1024_164 : Index := 1024#32
  ![v474.toNat, 1024]
def k0_off6 (k0_t1 : Fin k0_t1_loop.trips) (c0_i32_165 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v484 : BitVec 32 := Scalar.addi v429 c0_i32_165
  let v485 : Index := Scalar.indexCast v484
  let c1280 : Index := 1280#32
  ![v485.toNat, 1280]
def k0_off7 (k0_t1 : Fin k0_t1_loop.trips) (c0_i32_166 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v495 : BitVec 32 := Scalar.addi v429 c0_i32_166
  let v496 : Index := Scalar.indexCast v495
  let c1536 : Index := 1536#32
  ![v496.toNat, 1536]
def k0_off8 (k0_t1 : Fin k0_t1_loop.trips) (c0_i32_167 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v506 : BitVec 32 := Scalar.addi v429 c0_i32_167
  let v507 : Index := Scalar.indexCast v506
  let c1792 : Index := 1792#32
  ![v507.toNat, 1792]
def k0_off9 (k0_t1 : Fin k0_t1_loop.trips) (c0_i32_168 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v517 : BitVec 32 := Scalar.addi v429 c0_i32_168
  let v518 : Index := Scalar.indexCast v517
  let c2048 : Index := 2048#32
  ![v518.toNat, 2048]
def k0_off10 (k0_t1 : Fin k0_t1_loop.trips) (c0_i32_169 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v528 : BitVec 32 := Scalar.addi v429 c0_i32_169
  let v529 : Index := Scalar.indexCast v528
  let c2304 : Index := 2304#32
  ![v529.toNat, 2304]
def k0_off11 (k0_t1 : Fin k0_t1_loop.trips) (c0_i32_170 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v539 : BitVec 32 := Scalar.addi v429 c0_i32_170
  let v540 : Index := Scalar.indexCast v539
  let c2560 : Index := 2560#32
  ![v540.toNat, 2560]
def k0_off12 (k0_t1 : Fin k0_t1_loop.trips) (c0_i32_171 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v550 : BitVec 32 := Scalar.addi v429 c0_i32_171
  let v551 : Index := Scalar.indexCast v550
  let c2816 : Index := 2816#32
  ![v551.toNat, 2816]
def k0_off13 (k0_t1 : Fin k0_t1_loop.trips) (c0_i32_172 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v561 : BitVec 32 := Scalar.addi v429 c0_i32_172
  let v562 : Index := Scalar.indexCast v561
  let c3072 : Index := 3072#32
  ![v562.toNat, 3072]
def k0_off14 (k0_t1 : Fin k0_t1_loop.trips) (c0_i32_173 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v572 : BitVec 32 := Scalar.addi v429 c0_i32_173
  let v573 : Index := Scalar.indexCast v572
  let c3328 : Index := 3328#32
  ![v573.toNat, 3328]
def k0_off15 (k0_t1 : Fin k0_t1_loop.trips) (c0_i32_174 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v583 : BitVec 32 := Scalar.addi v429 c0_i32_174
  let v584 : Index := Scalar.indexCast v583
  let c3584 : Index := 3584#32
  ![v584.toNat, 3584]
def k0_off16 (k0_t1 : Fin k0_t1_loop.trips) (c0_i32_175 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v594 : BitVec 32 := Scalar.addi v429 c0_i32_175
  let v595 : Index := Scalar.indexCast v594
  let c3840 : Index := 3840#32
  ![v595.toNat, 3840]
def k0_off17 (k0_t1 : Fin k0_t1_loop.trips) (c0_i32_176 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v605 : BitVec 32 := Scalar.addi v429 c0_i32_176
  let v606 : Index := Scalar.indexCast v605
  let c4096 : Index := 4096#32
  ![v606.toNat, 4096]
def k0_off18 (k0_t1 : Fin k0_t1_loop.trips) (c0_i32_177 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v616 : BitVec 32 := Scalar.addi v429 c0_i32_177
  let v617 : Index := Scalar.indexCast v616
  let c4352 : Index := 4352#32
  ![v617.toNat, 4352]
def k0_off19 (k0_t1 : Fin k0_t1_loop.trips) (c0_i32_178 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v627 : BitVec 32 := Scalar.addi v429 c0_i32_178
  let v628 : Index := Scalar.indexCast v627
  let c4608 : Index := 4608#32
  ![v628.toNat, 4608]
def k0_off20 (k0_t1 : Fin k0_t1_loop.trips) (c0_i32_179 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v638 : BitVec 32 := Scalar.addi v429 c0_i32_179
  let v639 : Index := Scalar.indexCast v638
  let c4864 : Index := 4864#32
  ![v639.toNat, 4864]
def k0_off21 (k0_t1 : Fin k0_t1_loop.trips) (c0_i32_180 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v649 : BitVec 32 := Scalar.addi v429 c0_i32_180
  let v650 : Index := Scalar.indexCast v649
  let c5120 : Index := 5120#32
  ![v650.toNat, 5120]
def k0_off22 (k0_t1 : Fin k0_t1_loop.trips) (c0_i32_181 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v660 : BitVec 32 := Scalar.addi v429 c0_i32_181
  let v661 : Index := Scalar.indexCast v660
  let c5376 : Index := 5376#32
  ![v661.toNat, 5376]
def k0_off23 (k0_t1 : Fin k0_t1_loop.trips) (c0_i32_182 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v671 : BitVec 32 := Scalar.addi v429 c0_i32_182
  let v672 : Index := Scalar.indexCast v671
  let c5632 : Index := 5632#32
  ![v672.toNat, 5632]
def k0_off24 (k0_t1 : Fin k0_t1_loop.trips) (c0_i32_183 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v682 : BitVec 32 := Scalar.addi v429 c0_i32_183
  let v683 : Index := Scalar.indexCast v682
  let c5888 : Index := 5888#32
  ![v683.toNat, 5888]
def k0_off25 (k0_t1 : Fin k0_t1_loop.trips) (c0_i32_184 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v693 : BitVec 32 := Scalar.addi v429 c0_i32_184
  let v694 : Index := Scalar.indexCast v693
  let c6144 : Index := 6144#32
  ![v694.toNat, 6144]
def k0_off26 (k0_t1 : Fin k0_t1_loop.trips) (c0_i32_185 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v704 : BitVec 32 := Scalar.addi v429 c0_i32_185
  let v705 : Index := Scalar.indexCast v704
  let c6400 : Index := 6400#32
  ![v705.toNat, 6400]
def k0_off27 (k0_t1 : Fin k0_t1_loop.trips) (c0_i32_186 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v715 : BitVec 32 := Scalar.addi v429 c0_i32_186
  let v716 : Index := Scalar.indexCast v715
  let c6656 : Index := 6656#32
  ![v716.toNat, 6656]
def k0_off28 (k0_t1 : Fin k0_t1_loop.trips) (c0_i32_187 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v726 : BitVec 32 := Scalar.addi v429 c0_i32_187
  let v727 : Index := Scalar.indexCast v726
  let c6912 : Index := 6912#32
  ![v727.toNat, 6912]
def k0_off29 (k0_t1 : Fin k0_t1_loop.trips) (c0_i32_188 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v737 : BitVec 32 := Scalar.addi v429 c0_i32_188
  let v738 : Index := Scalar.indexCast v737
  let c7168 : Index := 7168#32
  ![v738.toNat, 7168]
def k0_off30 (k0_t1 : Fin k0_t1_loop.trips) (c0_i32_189 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v748 : BitVec 32 := Scalar.addi v429 c0_i32_189
  let v749 : Index := Scalar.indexCast v748
  let c7424 : Index := 7424#32
  ![v749.toNat, 7424]
def k0_off31 (k0_t1 : Fin k0_t1_loop.trips) (c0_i32_190 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v759 : BitVec 32 := Scalar.addi v429 c0_i32_190
  let v760 : Index := Scalar.indexCast v759
  let c7680 : Index := 7680#32
  ![v760.toNat, 7680]
def k0_off32 (k0_t1 : Fin k0_t1_loop.trips) (c0_i32_191 : BitVec 32) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v770 : BitVec 32 := Scalar.addi v429 c0_i32_191
  let v771 : Index := Scalar.indexCast v770
  let c7936 : Index := 7936#32
  ![v771.toNat, 7936]
def k0_off33 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1863 : Index := Scalar.indexCast v429
  let c0_394 : Index := 0#32
  ![v1863.toNat, 0]
def k0_off34 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1883 : Index := Scalar.indexCast v429
  let c256_400 : Index := 256#32
  ![v1883.toNat, 256]
def k0_off35 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1903 : Index := Scalar.indexCast v429
  let c512_406 : Index := 512#32
  ![v1903.toNat, 512]
def k0_off36 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1923 : Index := Scalar.indexCast v429
  let c768_412 : Index := 768#32
  ![v1923.toNat, 768]
def k0_off37 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1943 : Index := Scalar.indexCast v429
  let c1024_418 : Index := 1024#32
  ![v1943.toNat, 1024]
def k0_off38 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1963 : Index := Scalar.indexCast v429
  let c1280_424 : Index := 1280#32
  ![v1963.toNat, 1280]
def k0_off39 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v1983 : Index := Scalar.indexCast v429
  let c1536_430 : Index := 1536#32
  ![v1983.toNat, 1536]
def k0_off40 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2003 : Index := Scalar.indexCast v429
  let c1792_436 : Index := 1792#32
  ![v2003.toNat, 1792]
def k0_off41 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2023 : Index := Scalar.indexCast v429
  let c2048_442 : Index := 2048#32
  ![v2023.toNat, 2048]
def k0_off42 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2043 : Index := Scalar.indexCast v429
  let c2304_448 : Index := 2304#32
  ![v2043.toNat, 2304]
def k0_off43 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2063 : Index := Scalar.indexCast v429
  let c2560_454 : Index := 2560#32
  ![v2063.toNat, 2560]
def k0_off44 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2083 : Index := Scalar.indexCast v429
  let c2816_460 : Index := 2816#32
  ![v2083.toNat, 2816]
def k0_off45 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2103 : Index := Scalar.indexCast v429
  let c3072_466 : Index := 3072#32
  ![v2103.toNat, 3072]
def k0_off46 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2123 : Index := Scalar.indexCast v429
  let c3328_472 : Index := 3328#32
  ![v2123.toNat, 3328]
def k0_off47 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2143 : Index := Scalar.indexCast v429
  let c3584_478 : Index := 3584#32
  ![v2143.toNat, 3584]
def k0_off48 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2163 : Index := Scalar.indexCast v429
  let c3840_484 : Index := 3840#32
  ![v2163.toNat, 3840]
def k0_off49 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2183 : Index := Scalar.indexCast v429
  let c4096_490 : Index := 4096#32
  ![v2183.toNat, 4096]
def k0_off50 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2203 : Index := Scalar.indexCast v429
  let c4352_496 : Index := 4352#32
  ![v2203.toNat, 4352]
def k0_off51 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2223 : Index := Scalar.indexCast v429
  let c4608_502 : Index := 4608#32
  ![v2223.toNat, 4608]
def k0_off52 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2243 : Index := Scalar.indexCast v429
  let c4864_508 : Index := 4864#32
  ![v2243.toNat, 4864]
def k0_off53 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2263 : Index := Scalar.indexCast v429
  let c5120_514 : Index := 5120#32
  ![v2263.toNat, 5120]
def k0_off54 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2283 : Index := Scalar.indexCast v429
  let c5376_520 : Index := 5376#32
  ![v2283.toNat, 5376]
def k0_off55 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2303 : Index := Scalar.indexCast v429
  let c5632_526 : Index := 5632#32
  ![v2303.toNat, 5632]
def k0_off56 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2323 : Index := Scalar.indexCast v429
  let c5888_532 : Index := 5888#32
  ![v2323.toNat, 5888]
def k0_off57 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2343 : Index := Scalar.indexCast v429
  let c6144_538 : Index := 6144#32
  ![v2343.toNat, 6144]
def k0_off58 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2363 : Index := Scalar.indexCast v429
  let c6400_544 : Index := 6400#32
  ![v2363.toNat, 6400]
def k0_off59 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2383 : Index := Scalar.indexCast v429
  let c6656_550 : Index := 6656#32
  ![v2383.toNat, 6656]
def k0_off60 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2403 : Index := Scalar.indexCast v429
  let c6912_556 : Index := 6912#32
  ![v2403.toNat, 6912]
def k0_off61 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2423 : Index := Scalar.indexCast v429
  let c7168_562 : Index := 7168#32
  ![v2423.toNat, 7168]
def k0_off62 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2443 : Index := Scalar.indexCast v429
  let c7424_568 : Index := 7424#32
  ![v2443.toNat, 7424]
def k0_off63 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2463 : Index := Scalar.indexCast v429
  let c7680_574 : Index := 7680#32
  ![v2463.toNat, 7680]
def k0_off64 (k0_t1 : Fin k0_t1_loop.trips) : Fin 2 → Nat :=
  let c0_i32_154 : BitVec 32 := 0#32
  let c0_i32 : BitVec 32 := 0#32
  let c1_i32 : BitVec 32 := 1#32
  let arg13 : BitVec 32 := Scf.iv c0_i32 c1_i32 k0_t1
  let c32_i32 : BitVec 32 := 32#32
  let v427 : BitVec 32 := Scalar.muli arg13 c32_i32
  let v428 : BitVec 32 := Scalar.addi c0_i32_154 v427
  let v429 : BitVec 32 := v428
  let v2483 : Index := Scalar.indexCast v429
  let c7936_580 : Index := 7936#32
  ![v2483.toNat, 7936]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8192 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F]
-- ==== ReferenceIdeal.lean ====
abbrev S2x6144x8192 : Shape := ⟨3, ![2, 6144, 8192]⟩
abbrev S8192 : Shape := ⟨1, ![8192]⟩
abbrev S8192x1280 : Shape := ⟨2, ![8192, 1280]⟩
abbrev S1280 : Shape := ⟨1, ![1280]⟩
abbrev S2x6144 : Shape := ⟨2, ![2, 6144]⟩
abbrev S_ : Shape := ⟨0, ![]⟩
abbrev S64 : Shape := ⟨1, ![64]⟩
abbrev S2x6144x1 : Shape := ⟨3, ![2, 6144, 1]⟩
abbrev S1x1x8192 : Shape := ⟨3, ![1, 1, 8192]⟩
abbrev S1x1x64 : Shape := ⟨3, ![1, 1, 64]⟩
abbrev S2x6144x64 : Shape := ⟨3, ![2, 6144, 64]⟩
abbrev S12288x8192 : Shape := ⟨2, ![12288, 8192]⟩
abbrev S1x1280 : Shape := ⟨2, ![1, 1280]⟩
abbrev S1 : Shape := ⟨1, ![1]⟩
abbrev S12288x64 : Shape := ⟨2, ![12288, 64]⟩
abbrev S12288x8x128 : Shape := ⟨3, ![12288, 8, 128]⟩
abbrev S12288x128 : Shape := ⟨2, ![12288, 128]⟩
abbrev S12288x1280 : Shape := ⟨2, ![12288, 1280]⟩
abbrev S1x1 : Shape := ⟨2, ![1, 1]⟩
abbrev S12288x10x128 : Shape := ⟨3, ![12288, 10, 128]⟩
abbrev S12288x9x128 : Shape := ⟨3, ![12288, 9, 128]⟩
abbrev S12288x1x64 : Shape := ⟨3, ![12288, 1, 64]⟩
abbrev S12288x9x64 : Shape := ⟨3, ![12288, 9, 64]⟩
abbrev S12288x1x128 : Shape := ⟨3, ![12288, 1, 128]⟩

abbrev nBuf : Space → Nat
  | .hbm => 189
  | .vmem => 11
  | .smem => 0
  | _ => 0

abbrev hbmTy0_0 (i : Nat) : BufTy := match i % 128 with
  | 0 => ⟨S2x6144x8192, .bf16⟩
  | 1 => ⟨S8192, .bf16⟩
  | 2 => ⟨S8192x1280, .fp8e4m3⟩
  | 3 => ⟨S1280, .f32⟩
  | 4 => ⟨S2x6144, .i32⟩
  | 5 => ⟨S_, .f32⟩
  | 6 => ⟨S64, .f32⟩
  | 7 => ⟨S2x6144x8192, .f32⟩
  | 8 => ⟨S2x6144x8192, .f32⟩
  | 9 => ⟨S_, .f32⟩
  | 10 => ⟨S2x6144, .f32⟩
  | 11 => ⟨S2x6144x1, .f32⟩
  | 12 => ⟨S_, .f32⟩
  | 13 => ⟨S2x6144x1, .f32⟩
  | 14 => ⟨S2x6144x1, .f32⟩
  | 15 => ⟨S_, .f32⟩
  | 16 => ⟨S2x6144x1, .f32⟩
  | 17 => ⟨S2x6144x1, .f32⟩
  | 18 => ⟨S2x6144x1, .f32⟩
  | 19 => ⟨S2x6144x8192, .f32⟩
  | 20 => ⟨S2x6144x8192, .f32⟩
  | 21 => ⟨S8192, .f32⟩
  | 22 => ⟨S1x1x8192, .f32⟩
  | 23 => ⟨S2x6144x8192, .f32⟩
  | 24 => ⟨S2x6144x8192, .f32⟩
  | 25 => ⟨S_, .f32⟩
  | 26 => ⟨S_, .f32⟩
  | 27 => ⟨S2x6144x8192, .f32⟩
  | 28 => ⟨S2x6144x8192, .f32⟩
  | 29 => ⟨S_, .f32⟩
  | 30 => ⟨S_, .f32⟩
  | 31 => ⟨S_, .f32⟩
  | 32 => ⟨S2x6144x8192, .f32⟩
  | 33 => ⟨S2x6144x8192, .f32⟩
  | 34 => ⟨S_, .f32⟩
  | 35 => ⟨S2x6144x8192, .f32⟩
  | 36 => ⟨S2x6144x8192, .f32⟩
  | 37 => ⟨S2x6144, .f32⟩
  | 38 => ⟨S2x6144x1, .f32⟩
  | 39 => ⟨S1x1x64, .f32⟩
  | 40 => ⟨S2x6144x64, .f32⟩
  | 41 => ⟨S2x6144x64, .f32⟩
  | 42 => ⟨S2x6144x64, .f32⟩
  | 43 => ⟨S_, .f32⟩
  | 44 => ⟨S2x6144x64, .f32⟩
  | 45 => ⟨S2x6144x64, .f32⟩
  | 46 => ⟨S2x6144x64, .f32⟩
  | 47 => ⟨S_, .f32⟩
  | 48 => ⟨S2x6144x64, .f32⟩
  | 49 => ⟨S2x6144x64, .f32⟩
  | 50 => ⟨S2x6144x64, .f32⟩
  | 51 => ⟨S_, .f32⟩
  | 52 => ⟨S2x6144x64, .f32⟩
  | 53 => ⟨S2x6144x64, .f32⟩
  | 54 => ⟨S2x6144x64, .f32⟩
  | 55 => ⟨S_, .f32⟩
  | 56 => ⟨S2x6144x64, .f32⟩
  | 57 => ⟨S2x6144x64, .f32⟩
  | 58 => ⟨S2x6144x64, .f32⟩
  | 59 => ⟨S2x6144x64, .i32⟩
  | 60 => ⟨S_, .i32⟩
  | 61 => ⟨S2x6144x64, .i32⟩
  | 62 => ⟨S2x6144x64, .i32⟩
  | 63 => ⟨S2x6144x64, .f32⟩
  | 64 => ⟨S_, .f32⟩
  | 65 => ⟨S2x6144x64, .f32⟩
  | 66 => ⟨S2x6144x64, .f32⟩
  | 67 => ⟨S_, .f32⟩
  | 68 => ⟨S2x6144x64, .f32⟩
  | 69 => ⟨S2x6144x64, .f32⟩
  | 70 => ⟨S2x6144x64, .f32⟩
  | 71 => ⟨S_, .f32⟩
  | 72 => ⟨S2x6144x64, .f32⟩
  | 73 => ⟨S2x6144x64, .f32⟩
  | 74 => ⟨S2x6144x64, .f32⟩
  | 75 => ⟨S2x6144x64, .f32⟩
  | 76 => ⟨S2x6144x64, .f32⟩
  | 77 => ⟨S_, .f32⟩
  | 78 => ⟨S2x6144x64, .f32⟩
  | 79 => ⟨S2x6144x64, .f32⟩
  | 80 => ⟨S_, .f32⟩
  | 81 => ⟨S2x6144x64, .f32⟩
  | 82 => ⟨S2x6144x64, .f32⟩
  | 83 => ⟨S2x6144x64, .f32⟩
  | 84 => ⟨S_, .f32⟩
  | 85 => ⟨S2x6144x64, .f32⟩
  | 86 => ⟨S2x6144x64, .f32⟩
  | 87 => ⟨S2x6144x64, .f32⟩
  | 88 => ⟨S2x6144x64, .f32⟩
  | 89 => ⟨S_, .f32⟩
  | 90 => ⟨S2x6144x64, .f32⟩
  | 91 => ⟨S2x6144x64, .f32⟩
  | 92 => ⟨S2x6144x64, .f32⟩
  | 93 => ⟨S_, .f32⟩
  | 94 => ⟨S2x6144x64, .f32⟩
  | 95 => ⟨S2x6144x64, .f32⟩
  | 96 => ⟨S_, .i32⟩
  | 97 => ⟨S2x6144x64, .i32⟩
  | 98 => ⟨S2x6144x64, .i32⟩
  | 99 => ⟨S_, .i32⟩
  | 100 => ⟨S2x6144x64, .i32⟩
  | 101 => ⟨S2x6144x64, .i1⟩
  | 102 => ⟨S2x6144x64, .f32⟩
  | 103 => ⟨S_, .i32⟩
  | 104 => ⟨S2x6144x64, .i32⟩
  | 105 => ⟨S2x6144x64, .i32⟩
  | 106 => ⟨S_, .i32⟩
  | 107 => ⟨S2x6144x64, .i32⟩
  | 108 => ⟨S2x6144x64, .i1⟩
  | 109 => ⟨S2x6144x64, .f32⟩
  | 110 => ⟨S2x6144x64, .f32⟩
  | 111 => ⟨S_, .f32⟩
  | 112 => ⟨S2x6144x64, .f32⟩
  | 113 => ⟨S2x6144x64, .f32⟩
  | 114 => ⟨S2x6144x64, .f32⟩
  | 115 => ⟨S_, .f32⟩
  | 116 => ⟨S2x6144x64, .f32⟩
  | 117 => ⟨S2x6144x64, .f32⟩
  | 118 => ⟨S2x6144x64, .f32⟩
  | 119 => ⟨S_, .f32⟩
  | 120 => ⟨S2x6144x64, .f32⟩
  | 121 => ⟨S2x6144x64, .f32⟩
  | 122 => ⟨S2x6144x64, .f32⟩
  | 123 => ⟨S_, .f32⟩
  | 124 => ⟨S2x6144x64, .f32⟩
  | 125 => ⟨S2x6144x64, .f32⟩
  | 126 => ⟨S2x6144x64, .f32⟩
  | 127 => ⟨S2x6144x64, .i32⟩
  | _ => ⟨S2x6144x8192, .bf16⟩

abbrev hbmTy0_1 (i : Nat) : BufTy := match i % 128 with
  | 0 => ⟨S_, .i32⟩
  | 1 => ⟨S2x6144x64, .i32⟩
  | 2 => ⟨S2x6144x64, .i32⟩
  | 3 => ⟨S2x6144x64, .f32⟩
  | 4 => ⟨S_, .f32⟩
  | 5 => ⟨S2x6144x64, .f32⟩
  | 6 => ⟨S2x6144x64, .f32⟩
  | 7 => ⟨S_, .f32⟩
  | 8 => ⟨S2x6144x64, .f32⟩
  | 9 => ⟨S2x6144x64, .f32⟩
  | 10 => ⟨S2x6144x64, .f32⟩
  | 11 => ⟨S_, .f32⟩
  | 12 => ⟨S2x6144x64, .f32⟩
  | 13 => ⟨S2x6144x64, .f32⟩
  | 14 => ⟨S2x6144x64, .f32⟩
  | 15 => ⟨S2x6144x64, .f32⟩
  | 16 => ⟨S2x6144x64, .f32⟩
  | 17 => ⟨S_, .f32⟩
  | 18 => ⟨S2x6144x64, .f32⟩
  | 19 => ⟨S2x6144x64, .f32⟩
  | 20 => ⟨S_, .f32⟩
  | 21 => ⟨S2x6144x64, .f32⟩
  | 22 => ⟨S2x6144x64, .f32⟩
  | 23 => ⟨S2x6144x64, .f32⟩
  | 24 => ⟨S_, .f32⟩
  | 25 => ⟨S2x6144x64, .f32⟩
  | 26 => ⟨S2x6144x64, .f32⟩
  | 27 => ⟨S2x6144x64, .f32⟩
  | 28 => ⟨S2x6144x64, .f32⟩
  | 29 => ⟨S_, .f32⟩
  | 30 => ⟨S2x6144x64, .f32⟩
  | 31 => ⟨S2x6144x64, .f32⟩
  | 32 => ⟨S2x6144x64, .f32⟩
  | 33 => ⟨S_, .f32⟩
  | 34 => ⟨S2x6144x64, .f32⟩
  | 35 => ⟨S2x6144x64, .f32⟩
  | 36 => ⟨S_, .i32⟩
  | 37 => ⟨S2x6144x64, .i32⟩
  | 38 => ⟨S2x6144x64, .i32⟩
  | 39 => ⟨S_, .i32⟩
  | 40 => ⟨S2x6144x64, .i32⟩
  | 41 => ⟨S2x6144x64, .i1⟩
  | 42 => ⟨S2x6144x64, .f32⟩
  | 43 => ⟨S_, .i32⟩
  | 44 => ⟨S2x6144x64, .i32⟩
  | 45 => ⟨S2x6144x64, .i32⟩
  | 46 => ⟨S_, .i32⟩
  | 47 => ⟨S2x6144x64, .i32⟩
  | 48 => ⟨S2x6144x64, .i1⟩
  | 49 => ⟨S2x6144x64, .f32⟩
  | 50 => ⟨S2x6144x64, .f32⟩
  | 51 => ⟨S12288x8192, .f32⟩
  | 52 => ⟨S1x1280, .f32⟩
  | 53 => ⟨S1, .f32⟩
  | 54 => ⟨S12288x64, .f32⟩
  | 55 => ⟨S12288x64, .f32⟩
  | 56 => ⟨S12288x8x128, .bf16⟩
  | 57 => ⟨S12288x128, .bf16⟩
  | 58 => ⟨S12288x128, .bf16⟩
  | 59 => ⟨S12288x8192, .fp8e4m3⟩
  | 60 => ⟨S1, .f32⟩
  | _ => ⟨S2x6144x8192, .bf16⟩

abbrev hbmTy (i : Nat) : BufTy := match i / 128 with
  | 0 => hbmTy0_0 i
  | 1 => hbmTy0_1 i
  | _ => ⟨S2x6144x8192, .bf16⟩

abbrev bufTy : (tb : Table) → Fin (tcTables nBuf tb) → BufTy
  | .hbm, ⟨i, _⟩ => hbmTy i
  | .local _ .vmem, ⟨0, _⟩ => ⟨S12288x8192, .f32⟩
  | .local _ .vmem, ⟨1, _⟩ => ⟨S8192x1280, .fp8e4m3⟩
  | .local _ .vmem, ⟨2, _⟩ => ⟨S1x1280, .f32⟩
  | .local _ .vmem, ⟨3, _⟩ => ⟨S1, .f32⟩
  | .local _ .vmem, ⟨4, _⟩ => ⟨S12288x64, .f32⟩
  | .local _ .vmem, ⟨5, _⟩ => ⟨S12288x64, .f32⟩
  | .local _ .vmem, ⟨6, _⟩ => ⟨S12288x8x128, .bf16⟩
  | .local _ .vmem, ⟨7, _⟩ => ⟨S12288x128, .bf16⟩
  | .local _ .vmem, ⟨8, _⟩ => ⟨S12288x128, .bf16⟩
  | .local _ .vmem, ⟨9, _⟩ => ⟨S12288x8192, .fp8e4m3⟩
  | .local _ .vmem, ⟨10, _⟩ => ⟨S1, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_c_21 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_22 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_23 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_24 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_25 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_26 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_27 : Ref sig .tc := ⟨.hbm, 132, rfl⟩
abbrev main_v92 : Ref sig .tc := ⟨.hbm, 133, rfl⟩
abbrev main_v93 : Ref sig .tc := ⟨.hbm, 134, rfl⟩
abbrev main_cst_28 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_29 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_30 : Ref sig .tc := ⟨.hbm, 145, rfl⟩
abbrev main_v102 : Ref sig .tc := ⟨.hbm, 146, rfl⟩
abbrev main_v103 : Ref sig .tc := ⟨.hbm, 147, rfl⟩
abbrev main_cst_31 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_32 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_33 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_34 : Ref sig .tc := ⟨.hbm, 161, rfl⟩
abbrev main_v114 : Ref sig .tc := ⟨.hbm, 162, rfl⟩
abbrev main_v115 : Ref sig .tc := ⟨.hbm, 163, rfl⟩
abbrev main_c_35 : Ref sig .tc := ⟨.hbm, 164, rfl⟩
abbrev main_v116 : Ref sig .tc := ⟨.hbm, 165, rfl⟩
abbrev main_v117 : Ref sig .tc := ⟨.hbm, 166, rfl⟩
abbrev main_c_36 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_37 : Ref sig .tc := ⟨.hbm, 171, rfl⟩
abbrev main_v121 : Ref sig .tc := ⟨.hbm, 172, rfl⟩
abbrev main_v122 : Ref sig .tc := ⟨.hbm, 173, rfl⟩
abbrev main_c_38 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132_0 : Ref sig .tc := ⟨.hbm, 184, rfl⟩
abbrev main_v132_1 : Ref sig .tc := ⟨.hbm, 185, rfl⟩
abbrev main_v132_2 : Ref sig .tc := ⟨.hbm, 186, rfl⟩
abbrev main_v132_3 : Ref sig .tc := ⟨.hbm, 187, rfl⟩
abbrev main_v132_4 : Ref sig .tc := ⟨.hbm, 188, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12288x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
module

public import Idealize.ShloMosaic.Lib.Pointwise

@[expose] public section

/-! # What the two programs compute, row by row, over the extended reals

Functions of one row (or one column) of the arguments, with no shape of either program in them: the
kernel's blocks and the reference's arrays are both read as these. -/

noncomputable section

namespace Cert.Spec

open Idealize.ShloMosaic

/-- One over the root mean square of a row: `rsqrt (mean x² + ε)`, the mean a product with 2⁻¹³. -/
def rowInv (x : Fin 8192 → EReal) : EReal :=
  Ideal.rsqrt ((∑ d : Fin 8192, x d * x d) * Ideal.ofBits .f32 0x39000000#32 + Ideal.ofBits .f32 0x3727C5AC#32)

/-- The code of element `d` of a row: the normalised, weighted and rescaled element, clipped to ±448. -/
def code (x w : Fin 8192 → EReal) (s : EReal) (d : Fin 8192) : EReal :=
  min (Ideal.ofBits .f32 0x43E00000#32) (max (Ideal.ofBits .f32 0xC3E00000#32) (x d * rowInv x * w d * Ideal.div 1 s))

/-- A sum over 8192 lanes, taken lane by lane of 128 over a chain of 64 terms. -/
theorem sum_lanes (f : Fin 8192 → EReal) :
    ∑ d, f d = ∑ j : Fin 128, ∑ a : Fin 64, f ⟨a.val * 128 + j.val, by omega⟩ := by
  rw [Fin.sum_univ_tiles 64 128 rfl f, Finset.sum_comm]

/-! ## Cosines and sines

`quad a 0` stands for the sine of `a` and `quad a 1` for its cosine, as both programs compute them: the angle
is reduced by its nearest multiple of a quarter turn, in three parts, and one of two polynomials taken. -/

/-- The nearest number of quarter turns. -/
def turns (a : EReal) : EReal := Ideal.liftRound Ideal.roundHalfEven (a * Ideal.ofBits .f32 0x3F22F983#32)

/-- What is left of the angle without those quarter turns. -/
def rest (a : EReal) : EReal :=
  a - turns a * Ideal.ofBits .f32 0x3FC90000#32 - turns a * Ideal.ofBits .f32 0x39FDA000#32
    - turns a * Ideal.ofBits .f32 0x33A22169#32

/-- The sine's polynomial. -/
def sinPoly (r : EReal) : EReal :=
  ((Ideal.ofBits .f32 0xB94CA1F9#32 * (r * r) + Ideal.ofBits .f32 0x3C08839E#32) * (r * r)
    + Ideal.ofBits .f32 0xBE2AAAA3#32) * (r * r) * r + r

/-- The cosine's polynomial. -/
def cosPoly (r : EReal) : EReal :=
  ((Ideal.ofBits .f32 0x37CCF5CE#32 * (r * r) + Ideal.ofBits .f32 0xBAB6061A#32) * (r * r)
    + Ideal.ofBits .f32 0x3D2AAAA5#32) * (r * r * (r * r)) - Ideal.ofBits .f32 0x3F000000#32 * (r * r)
    + 1

/-- The polynomial of the angle's quadrant, before its sign. -/
def quadAbs (a : EReal) (t : BitVec 32) : EReal :=
  Scalar.select (IntOp.cmpi .eq (IntOp.andi (IntOp.addi (FloatOps.fptosi (F := Ideal) (φ := .f32) 32 (turns a)) t) 1#32) 1#32)
    (cosPoly (rest a)) (sinPoly (rest a))

/-- The sine of an angle and `t` quarter turns. -/
def quad (a : EReal) (t : BitVec 32) : EReal :=
  Scalar.select (IntOp.cmpi .eq (IntOp.andi (IntOp.addi (FloatOps.fptosi (F := Ideal) (φ := .f32) 32 (turns a)) t) 2#32) 2#32)
    (- quadAbs a t) (quadAbs a t)

/-! ## The results

Over the arguments as functions: `x` of sequence, place and channel, `w` the norm's weights, `s` the activation scale, `W` the
projection's weights, `ws` its scales, `p` the positions, `F` the rotation's frequencies. A row's number `n` runs through
both sequences. -/

/-- The sequence of a row. -/
def seq (n : Fin 12288) : Fin 2 := ⟨n.val / 6144, by omega⟩

/-- A row's place in its sequence. -/
def place (n : Fin 12288) : Fin 6144 := ⟨n.val % 6144, Nat.mod_lt _ (by norm_num)⟩

/-- One lane of a head, rotated by the angles of its row: `lo·cos − hi·sin` in the first half, `hi·cos + lo·sin` in the second. -/
def turn (y : Fin 128 → EReal) (cs sn : Fin 64 → EReal) (j : Fin 128) : EReal :=
  if h : j.val < 64 then y ⟨j.val, by omega⟩ * cs ⟨j.val, h⟩ - y ⟨64 + j.val, by omega⟩ * sn ⟨j.val, h⟩
  else y ⟨64 + (j.val - 64), by omega⟩ * cs ⟨j.val - 64, by omega⟩ + y ⟨j.val - 64, by omega⟩ * sn ⟨j.val - 64, by omega⟩

variable (x : Fin 2 → Fin 6144 → Fin 8192 → EReal) (w : Fin 8192 → EReal) (s : EReal) (W : Fin 8192 → Fin 1280 → EReal) (ws : Fin 1280 → EReal)
  (p : Fin 2 → Fin 6144 → BitVec 32) (F : Fin 64 → EReal)

/-- Code `d` of row `n`. -/
def codeAt (n : Fin 12288) (d : Fin 8192) : EReal := code (x (seq n) (place n)) w s d

/-- Entry `l` of row `n`'s product with the weights, scaled by both scales. -/
def laneAt (n : Fin 12288) (l : Fin 1280) : EReal := (∑ d : Fin 8192, codeAt x w s n d * W d l) * s * ws l

/-- Lane `j` of head `h` of row `n`, rotated by the row's position. -/
def headAt (n : Fin 12288) (h : Fin 10) (j : Fin 128) : EReal :=
  turn (fun j => laneAt x w s W ws n ⟨h.val * 128 + j.val, by omega⟩)
    (fun j => quad (FloatOps.sitofp (F := Ideal) .f32 (p (seq n) (place n)) * F j) 1#32)
    (fun j => quad (FloatOps.sitofp (F := Ideal) .f32 (p (seq n) (place n)) * F j) 0#32) j

end Cert.Spec
-- ==== Proof.RowInv.lean ====
module

public import proofs.«01_k».proof.Proof.Gen.KernelIdeal.Loops
public import proofs.«01_k».proof.Proof.Spec
public import Idealize.ShloMosaic.Lib.Pointwise
public import Idealize.ShloMosaic.Lib.Pipeline.Value
public import Idealize.ShloMosaic.Lib.Pipeline.ReadBack

@[expose] public section

/-! # The root mean square a trip of the kernel's loop computes

One trip normalises 32 rows, eight at a time: each load of eight rows adds the squares of 256 columns to 128 running
sums per row, which the lanes' sum then closes. Read at a row, what it leaves is `Spec.rowInv` of the row. -/

set_option maxRecDepth 16384

noncomputable section

namespace Cert.KernelIdeal.Trip

open Cert.KernelIdeal Cert.KernelIdeal.Gen Idealize.ShloMosaic Idealize.ShloMosaic.TcCoe Idealize.SL.Sem

variable (𝒱 : Variants) (c : Dev nD) (bd : Option 𝒱.V) (i : grid0.Coords)
  (arg1 : Memref sig .tc .smem S1 .f32) (harg1 : arg1.IsWhole) (arg2 : Memref sig .tc .vmem S2x512 .i32) (harg2 : arg2.IsWhole)
  (arg3 : Memref sig .tc .vmem S512x8192 .bf16) (harg3 : arg3.IsWhole) (arg4 : Memref sig .tc .vmem S1x8192 .bf16) (harg4 : arg4.IsWhole)
  (arg5 : Memref sig .tc .vmem S8192x1280 .fp8e4m3) (harg5 : arg5.IsWhole) (arg6 : Memref sig .tc .vmem S1x1280 .f32) (harg6 : arg6.IsWhole)
  (arg7 : Memref sig .tc .vmem S1x128 .f32) (harg7 : arg7.IsWhole) (arg8 : Memref sig .tc .vmem S512x8x128 .bf16) (harg8 : arg8.IsWhole)
  (arg9 : Memref sig .tc .vmem S512x128 .bf16) (harg9 : arg9.IsWhole) (arg10 : Memref sig .tc .vmem S512x128 .bf16) (harg10 : arg10.IsWhole)
  (arg11 : Memref sig .tc .vmem S512x8192 .fp8e4m3) (harg11 : arg11.IsWhole) (arg12 : Memref sig .tc .smem S1 .f32) (harg12 : arg12.IsWhole)

/-- The row a trip's load of eight rows starts at: trip `k`'s 32 rows, and eight rows per load within them. -/
theorem row_word (k : Fin k0_t1_loop.trips) (a : Fin 4) :
    BitVec.toNat (Scalar.indexCast (Scalar.addi (Scalar.addi 0#32 (Scalar.muli (Scf.iv 0#32 1#32 k.val) 32#32)) (BitVec.ofNat 32 (8 * a.val)))) = 32 * k.val + 8 * a.val := by
  revert k a; decide +kernel

set_option maxHeartbeats 1600000 in
/-- What a trip leaves in the inverse root mean square of its rows 0 to 7. -/
theorem inv_0 (X3 : BufTy.Contents (Elt Ideal) arg3.view.ty) (k : Fin k0_t1_loop.trips) (hk : k.val < 16) (r : Fin 8) :
    trip_k0_t1.sl.r_12 (F := Ideal) arg3 X3 k (ix2 r 0)
      = Cert.Spec.rowInv fun d => arg3.view.read (Elt Ideal) X3 (ix2 ⟨32 * k.val + r.val, by omega⟩ d) := by
  have w := row_word k 0
  sl_unfold_words
  simp only [View.readAt_eq_ld]
  generalize arg3.view.read (Elt Ideal) X3 = X
  pointwise [k0_pay3, k0_pay4, k0_pay5, k0_pay6, k0_pay7, k0_pay8, k0_pay9, k0_pay10, k0_pay11, k0_pay12, k0_pay13, k0_pay14, k0_pay15, k0_pay16, k0_pay17, k0_pay18]
  rw [Cert.Spec.rowInv, Cert.Spec.sum_lanes]
  simp only [Fin.isValue, Fin.coe_ofNat_eq_mod, Nat.reduceMod, Nat.reduceMul] at w
  simp only [w, Nat.add_zero]
  refine congrArg Ideal.rsqrt (congrArg₂ (· + ·) (congrArg₂ (· * ·) (Finset.sum_congr rfl fun j _ => ?_) rfl) rfl)
  simp only [Fin.sum_univ_ofNat]
  simp only [Fin.isValue, Fin.coe_ofNat_eq_mod, Nat.reduceMod, Nat.reduceMul, ← Nat.add_assoc, Nat.reduceAdd, Nat.zero_add]

set_option maxHeartbeats 1600000 in
/-- What a trip leaves in the inverse root mean square of its rows 8 to 15. -/
theorem inv_1 (X3 : BufTy.Contents (Elt Ideal) arg3.view.ty) (k : Fin k0_t1_loop.trips) (hk : k.val < 16) (r : Fin 8) :
    trip_k0_t1.sl.r_26 (F := Ideal) arg3 X3 k (ix2 r 0)
      = Cert.Spec.rowInv fun d => arg3.view.read (Elt Ideal) X3 (ix2 ⟨32 * k.val + 8 + r.val, by omega⟩ d) := by
  have w := row_word k 1
  sl_unfold_words
  simp only [View.readAt_eq_ld]
  generalize arg3.view.read (Elt Ideal) X3 = X
  pointwise [k0_pay19, k0_pay20, k0_pay21, k0_pay22, k0_pay23, k0_pay24, k0_pay25, k0_pay26, k0_pay27, k0_pay28, k0_pay29, k0_pay30, k0_pay31, k0_pay32, k0_pay33, k0_pay34, k0_pay35]
  rw [Cert.Spec.rowInv, Cert.Spec.sum_lanes]
  simp only [Fin.isValue, Fin.coe_ofNat_eq_mod, Nat.reduceMod, Nat.reduceMul] at w
  simp only [w, Nat.add_zero]
  refine congrArg Ideal.rsqrt (congrArg₂ (· + ·) (congrArg₂ (· * ·) (Finset.sum_congr rfl fun j _ => ?_) rfl) rfl)
  simp only [Fin.sum_univ_ofNat]
  simp only [Fin.isValue, Fin.coe_ofNat_eq_mod, Nat.reduceMod, Nat.reduceMul, ← Nat.add_assoc, Nat.reduceAdd, Nat.zero_add]

set_option maxHeartbeats 1600000 in
/-- What a trip leaves in the inverse root mean square of its rows 16 to 23. -/
theorem inv_2 (X3 : BufTy.Contents (Elt Ideal) arg3.view.ty) (k : Fin k0_t1_loop.trips) (hk : k.val < 16) (r : Fin 8) :
    trip_k0_t1.sl.r_39 (F := Ideal) arg3 X3 k (ix2 r 0)
      = Cert.Spec.rowInv fun d => arg3.view.read (Elt Ideal) X3 (ix2 ⟨32 * k.val + 16 + r.val, by omega⟩ d) := by
  have w := row_word k 2
  sl_unfold_words
  simp only [View.readAt_eq_ld]
  generalize arg3.view.read (Elt Ideal) X3 = X
  pointwise [k0_pay36, k0_pay37, k0_pay38, k0_pay39, k0_pay40, k0_pay41, k0_pay42, k0_pay43, k0_pay44, k0_pay45, k0_pay46, k0_pay47, k0_pay48, k0_pay49, k0_pay50]
  rw [Cert.Spec.rowInv, Cert.Spec.sum_lanes]
  simp only [Fin.isValue, Fin.coe_ofNat_eq_mod, Nat.reduceMod, Nat.reduceMul] at w
  simp only [w, Nat.add_zero]
  refine congrArg Ideal.rsqrt (congrArg₂ (· + ·) (congrArg₂ (· * ·) (Finset.sum_congr rfl fun j _ => ?_) rfl) rfl)
  simp only [Fin.sum_univ_ofNat]
  simp only [Fin.isValue, Fin.coe_ofNat_eq_mod, Nat.reduceMod, Nat.reduceMul, ← Nat.add_assoc, Nat.reduceAdd, Nat.zero_add]

/-- Four columns of eight rows one above the other, read at a row. -/
theorem cat4 (A B C D : FVec Ideal S8x1 .f32) (r : Fin 32) :
    concatenate S32x1 0 [⟨S8x1, A⟩, ⟨S8x1, B⟩, ⟨S8x1, C⟩, ⟨S8x1, D⟩] concatenates_S8x1_S8x1_S8x1_S8x1_S32x1_d0 (ix2 r 0)
      = if h : r.val < 8 then A (ix2 ⟨r.val, h⟩ 0) else if h : r.val - 8 < 8 then B (ix2 ⟨r.val - 8, h⟩ 0)
        else if h : r.val - 8 - 8 < 8 then C (ix2 ⟨r.val - 8 - 8, h⟩ 0) else D (ix2 ⟨r.val - 8 - 8 - 8, by omega⟩ 0) := by
  pointwise []

/-- A row's inverse depends on the row's number alone. -/
theorem rowInv_congr (X : S512x8192.Idx → EReal) (a b : Fin 512) (h : a.val = b.val) :
    (Cert.Spec.rowInv fun d => X (ix2 a d)) = Cert.Spec.rowInv fun d => X (ix2 b d) := by
  rw [Fin.ext h]

set_option maxHeartbeats 1600000 in
/-- What a trip leaves in the inverse root mean square of its 32 rows. -/
theorem inv (X3 : BufTy.Contents (Elt Ideal) arg3.view.ty) (k : Fin k0_t1_loop.trips) (hk : k.val < 16) (r : Fin 32) :
    trip_k0_t1.sl.r_53 (F := Ideal) arg3 X3 k (ix2 r 0)
      = Cert.Spec.rowInv fun d => arg3.view.read (Elt Ideal) X3 (ix2 ⟨32 * k.val + r.val, by omega⟩ d) := by
  have w := row_word k 3
  unfold trip_k0_t1.sl.r_53 k0_pay67
  refine (cat4 _ _ _ _ r).trans ?_
  by_cases h0 : r.val < 8
  · rw [dif_pos h0]; exact inv_0 arg3 X3 k hk ⟨r.val, h0⟩
  rw [dif_neg h0]
  by_cases h1 : r.val - 8 < 8
  · rw [dif_pos h1]
    exact (inv_1 arg3 X3 k hk ⟨r.val - 8, h1⟩).trans (rowInv_congr _ _ _ (by show 32 * k.val + 8 + (r.val - 8) = 32 * k.val + r.val; omega))
  rw [dif_neg h1]
  by_cases h2 : r.val - 8 - 8 < 8
  · rw [dif_pos h2]
    exact (inv_2 arg3 X3 k hk ⟨r.val - 8 - 8, h2⟩).trans (rowInv_congr _ _ _ (by show 32 * k.val + 16 + (r.val - 8 - 8) = 32 * k.val + r.val; omega))
  rw [dif_neg h2]
  refine Eq.trans ?_ (rowInv_congr _ ⟨32 * k.val + 24 + (r.val - 8 - 8 - 8), by omega⟩ _ (by show 32 * k.val + 24 + (r.val - 8 - 8 - 8) = 32 * k.val + r.val; omega))
  sl_unfold_words
  simp only [View.readAt_eq_ld]
  generalize arg3.view.read (Elt Ideal) X3 = X
  pointwise [k0_pay51, k0_pay52, k0_pay53, k0_pay54, k0_pay55, k0_pay56, k0_pay57, k0_pay58, k0_pay59, k0_pay60, k0_pay61, k0_pay62, k0_pay63, k0_pay64, k0_pay65, k0_pay66]
  rw [Cert.Spec.rowInv, Cert.Spec.sum_lanes]
  simp only [Fin.isValue, Fin.coe_ofNat_eq_mod, Nat.reduceMod, Nat.reduceMul] at w
  simp only [w, Nat.add_zero]
  refine congrArg Ideal.rsqrt (congrArg₂ (· + ·) (congrArg₂ (· * ·) (Finset.sum_congr rfl fun j _ => ?_) rfl) rfl)
  simp only [Fin.sum_univ_ofNat]
  simp only [Fin.isValue, Fin.coe_ofNat_eq_mod, Nat.reduceMod, Nat.reduceMul, ← Nat.add_assoc, Nat.reduceAdd, Nat.zero_add]
end Cert.KernelIdeal.Trip
-- ==== Proof.Codes.lean ====
module

public import proofs.«01_k».proof.Proof.RowInv
public import proofs.«01_k».proof.Proof.Gen.KernelIdeal.Frame.RunA
public import Idealize.ShloMosaic.Lib.Claim

@[expose] public section

/-! # What the kernel's loop writes: the codes, 32 rows a trip -/

set_option maxRecDepth 16384

noncomputable section

namespace Cert.KernelIdeal.Trip

open Cert.KernelIdeal Cert.KernelIdeal.Gen Idealize.ShloMosaic Idealize.ShloMosaic.TcCoe Idealize.SL.Sem

/-- The codes of a block of rows: `Spec.code` of each row. -/
def codes (X : S512x8192.Idx → EReal) (W : S1x8192.Idx → EReal) (s : EReal) : S512x8192.Idx → EReal :=
  fun y => Cert.Spec.code (fun d => X (ix2 (y 0) d)) (fun d => W (ix2 0 d)) s (y 1)

/-- The rectangle of a trip's tile lies inside the block. -/
theorem tile_inb {k o : ℕ} (hk : k < 16) (ho : o + 256 ≤ 8192) {off : Fin 2 → ℕ} (h : off = ![32 * k, o]) :
    ∀ a, off a + S32x256.size a ≤ S512x8192.size a := by
  subst h
  intro a
  match a with
  | ⟨0, _⟩ => show 32 * k + 32 ≤ 512; omega
  | ⟨1, _⟩ => exact ho

/-- A tile of a trip holds the codes of its place when it is computed from the rows and columns of its place and the
    rows' inverse root mean squares. -/
theorem tile (X : S512x8192.Idx → EReal) (W : S1x8192.Idx → EReal) (s : EReal) (I : S32x1.Idx → EReal) {k o : ℕ} (hk : k < 16)
    (ho : o + 256 ≤ 8192) {off : Fin 2 → ℕ} (h : off = ![32 * k, o])
    (hI : ∀ r : Fin 32, I (ix2 r 0) = Cert.Spec.rowInv fun d => X (ix2 ⟨32 * k + r.val, by omega⟩ d))
    (P : S32x256.Idx → EReal)
    (hP : ∀ (r : Fin 32) (j : Fin 256), P (ix2 r j) = min (Ideal.ofBits .f32 0x43E00000#32) (max (Ideal.ofBits .f32 0xC3E00000#32)
      (X (ix2 ⟨32 * k + r.val, by omega⟩ ⟨o + j.val, by omega⟩) * I (ix2 r 0) * W (ix2 0 ⟨o + j.val, by omega⟩) * Ideal.div 1 s)))
    (x : S32x256.Idx) : P x = codes X W s ((Rect.unit (s := S512x8192) off S32x256.size (tile_inb hk ho h)).emb x) := by
  subst h
  obtain ⟨r, j, rfl⟩ : ∃ (r : Fin 32) (j : Fin 256), x = ix2 r j := ⟨x 0, x 1, eq_ix2 x⟩
  have e : (Rect.unit (s := S512x8192) ![32 * k, o] S32x256.size (tile_inb hk ho rfl)).emb (ix2 r j)
      = ix2 ⟨32 * k + r.val, by omega⟩ ⟨o + j.val, by omega⟩ := by
    funext a
    match a with
    | ⟨0, _⟩ => exact Fin.ext (by show 32 * k + 1 * r.val = _; rw [Nat.one_mul]; rfl)
    | ⟨1, _⟩ => exact Fin.ext (by show o + 1 * j.val = _; rw [Nat.one_mul]; rfl)
  rw [e, hP r j, hI r]
  rfl

/-- The row a trip's stores start at. -/
theorem row_word' (k : Fin k0_t1_loop.trips) :
    BitVec.toNat (Scalar.indexCast (Scalar.addi 0#32 (Scalar.muli (Scf.iv 0#32 1#32 k.val) 32#32))) = 32 * k.val := by
  revert k; decide +kernel

/-- The first store spells the rows' inverse RMS out where the others name it. -/
theorem first_store (arg3 : Memref sig .tc .vmem S512x8192 .bf16) (X3 : BufTy.Contents (Elt Ideal) arg3.view.ty)
    (k : Fin k0_t1_loop.trips) (v0 : Ideal .f32) (h) (X : Vec Ideal S32x256 .bf16) (W : Vec Ideal S1x256 .bf16) :
    k0_pay68 (F := Ideal) v0 (trip_k0_t1.sl.r_12 arg3 X3 k) (trip_k0_t1.sl.r_26 arg3 X3 k) (trip_k0_t1.sl.r_39 arg3 X3 k) (trip_k0_t1.sl.r_50 arg3 X3 k) (trip_k0_t1.sl.r_51 arg3 X3 k) (trip_k0_t1.sl.r_52 arg3 X3 k)
        (View.readAt (Elt Ideal) arg3.view (Rect.unit (s := S512x8192) (k0_off32 k 24#32) ![8, 256] h).toLoadRect X3) X W
      = k0_pay70 v0 (trip_k0_t1.sl.r_53 arg3 X3 k) (k0_pay69 X) W := rfl

variable (𝒱 : Variants) (c : Dev nD) (bd : Option 𝒱.V) (i : grid0.Coords)
  (arg1 : Memref sig .tc .smem S1 .f32) (harg1 : arg1.IsWhole) (arg2 : Memref sig .tc .vmem S2x512 .i32) (harg2 : arg2.IsWhole)
  (arg3 : Memref sig .tc .vmem S512x8192 .bf16) (harg3 : arg3.IsWhole) (arg4 : Memref sig .tc .vmem S1x8192 .bf16) (harg4 : arg4.IsWhole)
  (arg5 : Memref sig .tc .vmem S8192x1280 .fp8e4m3) (harg5 : arg5.IsWhole) (arg6 : Memref sig .tc .vmem S1x1280 .f32) (harg6 : arg6.IsWhole)
  (arg7 : Memref sig .tc .vmem S1x128 .f32) (harg7 : arg7.IsWhole) (arg8 : Memref sig .tc .vmem S512x8x128 .bf16) (harg8 : arg8.IsWhole)
  (arg9 : Memref sig .tc .vmem S512x128 .bf16) (harg9 : arg9.IsWhole) (arg10 : Memref sig .tc .vmem S512x128 .bf16) (harg10 : arg10.IsWhole)
  (arg11 : Memref sig .tc .vmem S512x8192 .fp8e4m3) (harg11 : arg11.IsWhole) (arg12 : Memref sig .tc .smem S1 .f32) (harg12 : arg12.IsWhole)

set_option maxHeartbeats 4000000 in
/-- Every piece a trip writes holds the codes of its place. -/
theorem tripL_pieces (v0 : Elt Ideal .f32) (X3 : BufTy.Contents (Elt Ideal) arg3.view.ty) (X4 : BufTy.Contents (Elt Ideal) arg4.view.ty)
    (k : Fin k0_t1_loop.trips) (hk : k.val < 16) :
    View.PiecesOf (codes (arg3.view.read (Elt Ideal) X3) (arg4.view.read (Elt Ideal) X4) v0)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X3 X4 k) := by
  have hI := inv arg3 X3 k hk
  have w : BitVec.toNat (Scalar.indexCast (Scalar.addi 0#32 (Scalar.muli (Scf.iv 0#32 1#32 k.val) 32#32))) = 32 * k.val :=
    row_word' k
  unfold tripL_k0_t1 trip_k0_t1
  dsimp only
  simp only [trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71]
  simp only [first_store]
  generalize trip_k0_t1.sl.r_53 (F := Ideal) arg3 X3 k = I at hI ⊢
  iterate 32
    refine ⟨tile _ _ _ I hk (by norm_num) (ClosedOff.eq (off := _)) hI _ fun r j => ?_, ?_⟩
    rotate_left
  · trivial
  all_goals
    sl_unfold_words
    simp only [View.readAt_eq_ld]
    pointwise [k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
    simp only [w]

/-- The pieces all the trips leave: each holds the codes of its rows and columns. -/
theorem pb_pieces (v0 : Elt Ideal .f32) (X3 : BufTy.Contents (Elt Ideal) arg3.view.ty) (X4 : BufTy.Contents (Elt Ideal) arg4.view.ty) :
    ∀ n ≤ 16, ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X3 X4 n, ∀ x,
      p.2 x = codes (arg3.view.read (Elt Ideal) X3) (arg4.view.read (Elt Ideal) X4) v0 (p.1.emb x)
  | 0, _, p, hp, _ => absurd hp List.not_mem_nil
  | n + 1, hn, p, hp, x => by
    have ht : n < k0_t1_loop.trips := Nat.lt_of_lt_of_eq hn (by decide +kernel)
    rw [pb_k0_t1_succ 𝒱 c bd i arg1 harg1 arg2 harg2 arg3 harg3 arg4 harg4 arg5 harg5 arg6 harg6 arg7 harg7 arg8 harg8 arg9 harg9 arg10 harg10 arg11 harg11 arg12 harg12 v0 X3 X4 ⟨n, ht⟩] at hp
    rcases List.mem_append.mp hp with h | h
    · exact (tripL_pieces 𝒱 c bd i arg1 harg1 arg2 harg2 arg3 harg3 arg4 harg4 arg5 harg5 arg6 harg6 arg7 harg7 arg8 harg8 arg9 harg9 arg10 harg10 arg11 harg11 arg12 harg12 v0 X3 X4 ⟨n, ht⟩ hn).mem p h x
    · exact pb_pieces v0 X3 X4 n (Nat.le_of_succ_le hn) p h x

/-- After all sixteen trips the block holds its rows' codes, whatever it held before. -/
theorem pb_canon (v0 : Elt Ideal .f32) (X3 : BufTy.Contents (Elt Ideal) arg3.view.ty) (X4 : BufTy.Contents (Elt Ideal) arg4.view.ty) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X3 X4 (Scf.trips k0_t1_loop.lb k0_t1_loop.ub k0_t1_loop.st))
      = codes (arg3.view.read (Elt Ideal) X3) (arg4.view.read (Elt Ideal) X4) v0 := by
  funext y
  refine View.canon_apply_of_pieces _ _ (pb_pieces 𝒱 c bd i arg1 harg1 arg2 harg2 arg3 harg3 arg4 harg4 arg5 harg5 arg6 harg6 arg7 harg7 arg8 harg8 arg9 harg9 arg10 harg10 arg11 harg11 arg12 harg12 v0 X3 X4 _ (by decide +kernel)) y ?_
  exact View.cover_of_tiledL (s := S512x8192) _ S32x256.size (by sl_kernel_rfl) y
end Cert.KernelIdeal.Trip
-- ==== Proof.Tables.lean ====
module

public import proofs.«01_k».proof.Proof.Spec
public import proofs.«01_k».proof.Proof.Gen.KernelIdeal.Skeleton
public import Idealize.ShloMosaic.Lib.Pointwise
public import Idealize.ShloMosaic.Lib.Pipeline.ValueKit

@[expose] public section

/-! # The kernel's cosine and sine tables

One block's tables, 512 rows of 128 lanes, are computed in four parts of 128 rows. -/

set_option maxRecDepth 16384

noncomputable section

namespace Cert.KernelIdeal.Tables

open Cert.KernelIdeal Cert.KernelIdeal.Gen Idealize.ShloMosaic Idealize.ShloMosaic.TcCoe Idealize.SL.Sem

/-- The number of quarter turns lane `j` adds: one in the first half, whose lanes are to hold cosines. -/
def extra (j : Fin 128) : BitVec 32 :=
  Scalar.select (IntOp.cmpi .slt (BitVec.ofNat 32 j.val) 64#32) 1#32 0#32

/-- The lanes before their rotation: `quad` of row times lane. -/
theorem lane1 (A : FVec Ideal S128x128 .f32) (f : Vec Ideal S1x128 .f32) (r j : Fin 128) :
    k0_pay126 (F := Ideal) (k0_pay122 k0_pay117 A f) (k0_pay124 A f) (k0_pay125 A f) 1#32 (ix2 r j) = Spec.quad (A (ix2 r j) * f (ix2 0 j)) (extra j) := by
  pointwise [k0_pay117, k0_pay119, k0_pay120, k0_pay121, k0_pay122, k0_pay123, k0_pay124, k0_pay125, k0_pay126]
  simp only [Spec.quad, Spec.quadAbs, Spec.cosPoly, Spec.sinPoly, Spec.rest, Spec.turns, extra, zero_sub]

/-- A lane of the table of the second 128 rows. -/
theorem lane2 (v20 : BitVec 32) (P : Vec Ideal S2x128 .i32) (f : Vec Ideal S1x128 .f32) (r j : Fin 128) :
    k0_pay133 (F := Ideal) k0_pay117 (k0_pay131 v20 P f) (k0_pay132 v20 P f) (ix2 r j)
      = Spec.quad (FloatOps.sitofp (F := Ideal) .f32 (Finset.fold IntOp.addi 0#32 (fun x : Fin 2 =>
          Scalar.select (IntOp.cmpi .eq (BitVec.ofNat 32 x.val) v20) (P (ix2 x r)) 0#32) Finset.univ) * f (ix2 0 j)) (extra j) := by
  pointwise [k0_pay117, k0_pay130, k0_pay131, k0_pay132, k0_pay133]
  simp only [Spec.quad, Spec.quadAbs, Spec.cosPoly, Spec.sinPoly, Spec.rest, Spec.turns, extra, zero_sub]

/-- A lane of the table of the third 128 rows. -/
theorem lane3 (v20 : BitVec 32) (P : Vec Ideal S2x128 .i32) (f : Vec Ideal S1x128 .f32) (r j : Fin 128) :
    k0_pay143 (F := Ideal) (k0_pay139 v20 P f) (k0_pay140 v20 k0_pay117 P f) (k0_pay141 v20 P f) (k0_pay142 v20 P f) (ix2 r j)
      = Spec.quad (FloatOps.sitofp (F := Ideal) .f32 (Finset.fold IntOp.addi 0#32 (fun x : Fin 2 =>
          Scalar.select (IntOp.cmpi .eq (BitVec.ofNat 32 x.val) v20) (P (ix2 x r)) 0#32) Finset.univ) * f (ix2 0 j)) (extra j) := by
  pointwise [k0_pay117, k0_pay137, k0_pay138, k0_pay139, k0_pay140, k0_pay141, k0_pay142, k0_pay143]
  simp only [Spec.quad, Spec.quadAbs, Spec.cosPoly, Spec.sinPoly, Spec.rest, Spec.turns, extra, zero_sub]

/-- A lane of the table of the last 128 rows. -/
theorem lane4 (v20 : BitVec 32) (P : Vec Ideal S2x128 .i32) (f : Vec Ideal S1x128 .f32) (r j : Fin 128) :
    k0_pay155 (F := Ideal) (k0_pay151 k0_pay117 (k0_pay147 v20 P) f) (k0_pay153 (k0_pay147 v20 P) f) (k0_pay154 (k0_pay147 v20 P) f)
        (FloatOps.ofBits .f32 1065353216#32) (ix2 r j)
      = Spec.quad (FloatOps.sitofp (F := Ideal) .f32 (Finset.fold IntOp.addi 0#32 (fun x : Fin 2 =>
          Scalar.select (IntOp.cmpi .eq (BitVec.ofNat 32 x.val) v20) (P (ix2 x r)) 0#32) Finset.univ) * f (ix2 0 j)) (extra j) := by
  pointwise [k0_pay117, k0_pay147, k0_pay148, k0_pay149, k0_pay150, k0_pay151, k0_pay152, k0_pay153, k0_pay154, k0_pay155]
  simp only [Spec.quad, Spec.quadAbs, Spec.cosPoly, Spec.sinPoly, Spec.rest, Spec.turns, extra, zero_sub]

/-! ## lanes below and above the middle -/

/-- The lane's place in its half. -/
def half (j : Fin 128) : Fin 64 := ⟨j.val % 64, Nat.mod_lt _ (by norm_num)⟩

/-- The sign the first half's sines carry. -/
def sgn (j : Fin 128) (x : EReal) : EReal := if j.val < 64 then -x else x

/-- The signed comparison of a lane's word with 64 is the comparison of the lane with 64. -/
theorem lt_word : ∀ j : Fin 128, IntOp.cmpi .slt (BitVec.ofNat 32 j.val) 64#32 = if j.val < 64 then 1#1 else 0#1 := by
  decide +kernel

/-- Lanes that hold cosines in the first half and sines in the second, turned by 64 lanes above the middle, are cosines. -/
theorem cos_lanes (L : Fin 128 → EReal) (p : EReal) (F : Fin 64 → EReal)
    (hL : ∀ j, L j = Spec.quad (p * F (half j)) (extra j)) (j : Fin 128) :
    Scalar.select (IntOp.cmpi .slt (BitVec.ofNat 32 j.val) 64#32) (L j) (L ⟨(j.val + 128 - 64) % 128, by omega⟩)
      = Spec.quad (p * F (half j)) 1#32 := by
  simp only [hL, extra, lt_word]
  by_cases h : j.val < 64
  · simp [h, Scalar.select]
  · have e : (j.val + 128 - 64) % 128 = j.val - 64 := by omega
    have h2 : j.val - 64 < 64 := by omega
    have e2 : half ⟨j.val - 64, by omega⟩ = half j := Fin.ext (by show (j.val - 64) % 64 = j.val % 64; omega)
    have w := lt_word ⟨j.val - 64, by omega⟩
    simp only [h2, if_true] at w
    simp only [e, e2, w]
    simp [h, Scalar.select]

/-- The same lanes, turned below the middle and negated there, are sines. -/
theorem sin_lanes (L : Fin 128 → EReal) (p : EReal) (F : Fin 64 → EReal)
    (hL : ∀ j, L j = Spec.quad (p * F (half j)) (extra j)) (j : Fin 128) :
    Scalar.select (IntOp.cmpi .slt (BitVec.ofNat 32 j.val) 64#32) (0 - L ⟨(j.val + 128 - 64) % 128, by omega⟩) (L j)
      = sgn j (Spec.quad (p * F (half j)) 0#32) := by
  simp only [hL, extra, lt_word, sgn]
  by_cases h : j.val < 64
  · have e : (j.val + 128 - 64) % 128 = j.val + 64 := by omega
    have h2 : ¬ j.val + 64 < 64 := by omega
    have e2 : half ⟨j.val + 64, by omega⟩ = half j := Fin.ext (by show (j.val + 64) % 64 = j.val % 64; omega)
    have w := lt_word ⟨j.val + 64, by omega⟩
    simp only [h2, if_false] at w
    simp only [e, e2, w]
    simp [h, Scalar.select]
  · simp [h, Scalar.select]

/-! ## The positions of the block's rows -/

/-- The sequence a grid point belongs to: there are twelve blocks in each. -/
def seq (i : grid0.Coords) : Fin 2 := ⟨(i 0).val / 12, by have : (i 0).val < 24 := (i 0).isLt; omega⟩

/-- The word the kernel computes for it. -/
def seqWord (i : grid0.Coords) : BitVec 32 :=
  Scalar.select (Scalar.andi (Scalar.cmpi .ne (Scalar.subi (Scalar.extui (Scalar.cmpi .sgt (BitVec.ofNat 32 (i 0).val) 0#32))
      (Scalar.extui (Scalar.cmpi .slt (BitVec.ofNat 32 (i 0).val) 0#32))) 1#32) (Scalar.cmpi .ne (Scalar.remsi (BitVec.ofNat 32 (i 0).val) 12#32) 0#32))
    (Scalar.subi (Scalar.divsi (BitVec.ofNat 32 (i 0).val) 12#32) 1#32) (Scalar.divsi (BitVec.ofNat 32 (i 0).val) 12#32)

/-- The kernel's quotient of a step by twelve, at each of the 24 steps. -/
theorem seqWord_fin : ∀ n : Fin 24,
    Scalar.select (Scalar.andi (Scalar.cmpi .ne (Scalar.subi (Scalar.extui (Scalar.cmpi .sgt (BitVec.ofNat 32 n.val) 0#32))
      (Scalar.extui (Scalar.cmpi .slt (BitVec.ofNat 32 n.val) 0#32))) 1#32) (Scalar.cmpi .ne (Scalar.remsi (BitVec.ofNat 32 n.val) 12#32) 0#32))
    (Scalar.subi (Scalar.divsi (BitVec.ofNat 32 n.val) 12#32) 1#32) (Scalar.divsi (BitVec.ofNat 32 n.val) 12#32)
      = BitVec.ofNat 32 (n.val / 12) := by decide +kernel

/-- The kernel's quotient of a step by twelve is the step's sequence. -/
theorem seqWord_eq (i : grid0.Coords) : seqWord i = BitVec.ofNat 32 (seq i).val := seqWord_fin (i 0)

/-- Adding up the two sequences' positions, those of the other one masked, leaves the sequence's own. -/
theorem pick (b : Fin 2) (P : Vec Ideal S2x128 .i32) (r : Fin 128) :
    Finset.fold IntOp.addi 0#32 (fun x : Fin 2 =>
      Scalar.select (IntOp.cmpi .eq (BitVec.ofNat 32 x.val) (BitVec.ofNat 32 b.val)) (P (ix2 x r)) 0#32) Finset.univ = P (ix2 b r) := by
  have hu : (Finset.univ : Finset (Fin 2)) = {0, 1} := rfl
  rw [hu, Finset.fold_insert (by decide), Finset.fold_singleton]
  match b with
  | 0 => simp [Scalar.select, IntOp.cmpi, IntOp.addi]
  | 1 => simp [Scalar.select, IntOp.cmpi, IntOp.addi]

/-- The first part's column of positions. -/
theorem pos1 (i : grid0.Coords) (P : Vec Ideal S2x128 .i32) (r j : Fin 128) :
    k0_pay118 (F := Ideal) i P (ix2 r j) = FloatOps.sitofp (F := Ideal) .f32 (P (ix2 (seq i) r)) := by
  refine Eq.trans ?_ (congrArg (FloatOps.sitofp (F := Ideal) .f32) (pick (seq i) P r))
  rw [← seqWord_eq]
  pointwise [k0_pay118]
  rfl

/-- The cosines of the first 128 rows. -/
theorem cos1 (i : grid0.Coords) (P : Vec Ideal S2x128 .i32) (f : Vec Ideal S1x128 .f32) (F : Fin 64 → EReal)
    (hf : ∀ j : Fin 128, f (ix2 0 j) = F (half j)) (r j : Fin 128) :
    k0_pay128 (F := Ideal) k0_pay117 (k0_pay122 k0_pay117 (k0_pay118 i P) f) (k0_pay124 (k0_pay118 i P) f) (k0_pay125 (k0_pay118 i P) f) 1#32 (ix2 r j) = Spec.quad (FloatOps.sitofp (F := Ideal) .f32 (P (ix2 (seq i) r)) * F (half j)) 1#32 := by
  refine Eq.trans ?_ (cos_lanes (fun j => k0_pay126 (F := Ideal) (k0_pay122 k0_pay117 (k0_pay118 i P) f) (k0_pay124 (k0_pay118 i P) f) (k0_pay125 (k0_pay118 i P) f) 1#32 (ix2 r j)) (FloatOps.sitofp (F := Ideal) .f32 (P (ix2 (seq i) r))) F (fun j => ?_) j)
  · pointwise [k0_pay117, k0_pay127, k0_pay128]
  · refine (lane1 _ _ _ _).trans ?_
    rw [hf, pos1]

/-- The signed sines of the first 128 rows. -/
theorem sin1 (i : grid0.Coords) (P : Vec Ideal S2x128 .i32) (f : Vec Ideal S1x128 .f32) (F : Fin 64 → EReal)
    (hf : ∀ j : Fin 128, f (ix2 0 j) = F (half j)) (r j : Fin 128) :
    k0_pay129 (F := Ideal) k0_pay117 (k0_pay122 k0_pay117 (k0_pay118 i P) f) (k0_pay124 (k0_pay118 i P) f) (k0_pay125 (k0_pay118 i P) f) 1#32 (ix2 r j) = sgn j (Spec.quad (FloatOps.sitofp (F := Ideal) .f32 (P (ix2 (seq i) r)) * F (half j)) 0#32) := by
  refine Eq.trans ?_ (sin_lanes (fun j => k0_pay126 (F := Ideal) (k0_pay122 k0_pay117 (k0_pay118 i P) f) (k0_pay124 (k0_pay118 i P) f) (k0_pay125 (k0_pay118 i P) f) 1#32 (ix2 r j)) (FloatOps.sitofp (F := Ideal) .f32 (P (ix2 (seq i) r))) F (fun j => ?_) j)
  · pointwise [k0_pay117, k0_pay127, k0_pay129]
  · refine (lane1 _ _ _ _).trans ?_
    rw [hf, pos1]

/-- The cosines of the second 128 rows. -/
theorem cos2 (i : grid0.Coords) (P : Vec Ideal S2x128 .i32) (f : Vec Ideal S1x128 .f32) (F : Fin 64 → EReal)
    (hf : ∀ j : Fin 128, f (ix2 0 j) = F (half j)) (r j : Fin 128) :
    k0_pay135 (F := Ideal) k0_pay117 (k0_pay131 (seqWord i) P f) (k0_pay132 (seqWord i) P f) (ix2 r j) = Spec.quad (FloatOps.sitofp (F := Ideal) .f32 (P (ix2 (seq i) r)) * F (half j)) 1#32 := by
  refine Eq.trans ?_ (cos_lanes (fun j => k0_pay133 (F := Ideal) k0_pay117 (k0_pay131 (seqWord i) P f) (k0_pay132 (seqWord i) P f) (ix2 r j)) (FloatOps.sitofp (F := Ideal) .f32 (P (ix2 (seq i) r))) F (fun j => ?_) j)
  · pointwise [k0_pay117, k0_pay134, k0_pay135]
  · refine (lane2 _ _ _ _ _).trans ?_
    rw [hf, seqWord_eq, pick]

/-- The signed sines of the second 128 rows. -/
theorem sin2 (i : grid0.Coords) (P : Vec Ideal S2x128 .i32) (f : Vec Ideal S1x128 .f32) (F : Fin 64 → EReal)
    (hf : ∀ j : Fin 128, f (ix2 0 j) = F (half j)) (r j : Fin 128) :
    k0_pay136 (F := Ideal) k0_pay117 (k0_pay133 k0_pay117 (k0_pay131 (seqWord i) P f) (k0_pay132 (seqWord i) P f)) (k0_pay134 k0_pay117 (k0_pay131 (seqWord i) P f) (k0_pay132 (seqWord i) P f)) (ix2 r j) = sgn j (Spec.quad (FloatOps.sitofp (F := Ideal) .f32 (P (ix2 (seq i) r)) * F (half j)) 0#32) := by
  refine Eq.trans ?_ (sin_lanes (fun j => k0_pay133 (F := Ideal) k0_pay117 (k0_pay131 (seqWord i) P f) (k0_pay132 (seqWord i) P f) (ix2 r j)) (FloatOps.sitofp (F := Ideal) .f32 (P (ix2 (seq i) r))) F (fun j => ?_) j)
  · pointwise [k0_pay117, k0_pay134, k0_pay136]
  · refine (lane2 _ _ _ _ _).trans ?_
    rw [hf, seqWord_eq, pick]

/-- The cosines of the third 128 rows. -/
theorem cos3 (i : grid0.Coords) (P : Vec Ideal S2x128 .i32) (f : Vec Ideal S1x128 .f32) (F : Fin 64 → EReal)
    (hf : ∀ j : Fin 128, f (ix2 0 j) = F (half j)) (r j : Fin 128) :
    k0_pay145 (F := Ideal) k0_pay117 (k0_pay139 (seqWord i) P f) (k0_pay140 (seqWord i) k0_pay117 P f) (k0_pay141 (seqWord i) P f) (k0_pay142 (seqWord i) P f) (ix2 r j) = Spec.quad (FloatOps.sitofp (F := Ideal) .f32 (P (ix2 (seq i) r)) * F (half j)) 1#32 := by
  refine Eq.trans ?_ (cos_lanes (fun j => k0_pay143 (F := Ideal) (k0_pay139 (seqWord i) P f) (k0_pay140 (seqWord i) k0_pay117 P f) (k0_pay141 (seqWord i) P f) (k0_pay142 (seqWord i) P f) (ix2 r j)) (FloatOps.sitofp (F := Ideal) .f32 (P (ix2 (seq i) r))) F (fun j => ?_) j)
  · pointwise [k0_pay117, k0_pay144, k0_pay145]
  · refine (lane3 _ _ _ _ _).trans ?_
    rw [hf, seqWord_eq, pick]

/-- The signed sines of the third 128 rows. -/
theorem sin3 (i : grid0.Coords) (P : Vec Ideal S2x128 .i32) (f : Vec Ideal S1x128 .f32) (F : Fin 64 → EReal)
    (hf : ∀ j : Fin 128, f (ix2 0 j) = F (half j)) (r j : Fin 128) :
    k0_pay146 (F := Ideal) k0_pay117 (k0_pay139 (seqWord i) P f) (k0_pay140 (seqWord i) k0_pay117 P f) (k0_pay141 (seqWord i) P f) (k0_pay142 (seqWord i) P f) (ix2 r j) = sgn j (Spec.quad (FloatOps.sitofp (F := Ideal) .f32 (P (ix2 (seq i) r)) * F (half j)) 0#32) := by
  refine Eq.trans ?_ (sin_lanes (fun j => k0_pay143 (F := Ideal) (k0_pay139 (seqWord i) P f) (k0_pay140 (seqWord i) k0_pay117 P f) (k0_pay141 (seqWord i) P f) (k0_pay142 (seqWord i) P f) (ix2 r j)) (FloatOps.sitofp (F := Ideal) .f32 (P (ix2 (seq i) r))) F (fun j => ?_) j)
  · pointwise [k0_pay117, k0_pay144, k0_pay146]
  · refine (lane3 _ _ _ _ _).trans ?_
    rw [hf, seqWord_eq, pick]

/-- The cosines of the last 128 rows. -/
theorem cos4 (i : grid0.Coords) (P : Vec Ideal S2x128 .i32) (f : Vec Ideal S1x128 .f32) (F : Fin 64 → EReal)
    (hf : ∀ j : Fin 128, f (ix2 0 j) = F (half j)) (r j : Fin 128) :
    (select k0_pay117 (k0_pay155 (F := Ideal) (k0_pay151 k0_pay117 (k0_pay147 (seqWord i) P) f) (k0_pay153 (k0_pay147 (seqWord i) P) f) (k0_pay154 (k0_pay147 (seqWord i) P) f) (FloatOps.ofBits .f32 1065353216#32)) (k0_pay156 (k0_pay151 k0_pay117 (k0_pay147 (seqWord i) P) f) (k0_pay153 (k0_pay147 (seqWord i) P) f) (k0_pay154 (k0_pay147 (seqWord i) P) f) (FloatOps.ofBits .f32 1065353216#32)) : FVec Ideal S128x128 .f32) (ix2 r j) = Spec.quad (FloatOps.sitofp (F := Ideal) .f32 (P (ix2 (seq i) r)) * F (half j)) 1#32 := by
  refine Eq.trans ?_ (cos_lanes (fun j => k0_pay155 (F := Ideal) (k0_pay151 k0_pay117 (k0_pay147 (seqWord i) P) f) (k0_pay153 (k0_pay147 (seqWord i) P) f) (k0_pay154 (k0_pay147 (seqWord i) P) f) (FloatOps.ofBits .f32 1065353216#32) (ix2 r j)) (FloatOps.sitofp (F := Ideal) .f32 (P (ix2 (seq i) r))) F (fun j => ?_) j)
  · pointwise [k0_pay117, k0_pay156]
  · refine (lane4 _ _ _ _ _).trans ?_
    rw [hf, seqWord_eq, pick]

/-- The signed sines of the last 128 rows. -/
theorem sin4 (i : grid0.Coords) (P : Vec Ideal S2x128 .i32) (f : Vec Ideal S1x128 .f32) (F : Fin 64 → EReal)
    (hf : ∀ j : Fin 128, f (ix2 0 j) = F (half j)) (r j : Fin 128) :
    (select k0_pay117 (subf (F := Ideal) (broadcast S128x128 (Scalar.ofBits (F := Ideal) .f32 0x00000000#32)) (k0_pay156 (k0_pay151 k0_pay117 (k0_pay147 (seqWord i) P) f) (k0_pay153 (k0_pay147 (seqWord i) P) f) (k0_pay154 (k0_pay147 (seqWord i) P) f) (FloatOps.ofBits .f32 1065353216#32))) (k0_pay155 (F := Ideal) (k0_pay151 k0_pay117 (k0_pay147 (seqWord i) P) f) (k0_pay153 (k0_pay147 (seqWord i) P) f) (k0_pay154 (k0_pay147 (seqWord i) P) f) (FloatOps.ofBits .f32 1065353216#32)) : FVec Ideal S128x128 .f32) (ix2 r j) = sgn j (Spec.quad (FloatOps.sitofp (F := Ideal) .f32 (P (ix2 (seq i) r)) * F (half j)) 0#32) := by
  refine Eq.trans ?_ (sin_lanes (fun j => k0_pay155 (F := Ideal) (k0_pay151 k0_pay117 (k0_pay147 (seqWord i) P) f) (k0_pay153 (k0_pay147 (seqWord i) P) f) (k0_pay154 (k0_pay147 (seqWord i) P) f) (FloatOps.ofBits .f32 1065353216#32) (ix2 r j)) (FloatOps.sitofp (F := Ideal) .f32 (P (ix2 (seq i) r))) F (fun j => ?_) j)
  · pointwise [k0_pay117, k0_pay156]
  · refine (lane4 _ _ _ _ _).trans ?_
    rw [hf, seqWord_eq, pick]

end Cert.KernelIdeal.Tables
-- ==== Proof.Block.lean ====
module

public import proofs.«01_k».proof.Proof.Codes
public import proofs.«01_k».proof.Proof.Tables
public import proofs.«01_k».proof.Proof.Gen.KernelIdeal.Frame

@[expose] public section

/-! # What one grid point leaves in the five output blocks -/

set_option maxRecDepth 16384

noncomputable section

namespace Cert.KernelIdeal.Block

open Cert.KernelIdeal Cert.KernelIdeal.Gen Idealize.ShloMosaic Idealize.ShloMosaic.TcCoe Idealize.SL.Sem
open Cert.KernelIdeal.Tables (half sgn seq)

/-! ## Two heads at a time -/

/-- The product of the codes with 256 columns, scaled: entry `l` of group `o`. -/
def lin (A : S512x8192.Idx → EReal) (W : S8192x256.Idx → EReal) (sc : S1x1280.Idx → EReal) (o : Fin 5) (r : Fin 512) (l : Fin 256) : EReal :=
  (∑ d : Fin 8192, A (ix2 r d) * W (ix2 d l)) * sc (ix2 0 ⟨256 * o.val + l.val, by omega⟩)

/-- One lane of a head after its rotation: its own lane and the one half a head away. -/
def rot (y cs sn : Fin 128 → EReal) (j : Fin 128) : EReal :=
  y j * cs j + y ⟨(j.val + 128 - 64) % 128, by omega⟩ * sn j

variable (C S : FVec Ideal S512x128 .f32) (sc : FVec Ideal S1x1280 .f32) (A : Vec Ideal S512x8192 .fp8e4m3) (W : Vec Ideal S8192x256 .fp8e4m3)

set_option maxHeartbeats 1000000 in
/-- Heads two and three of the queries. -/
theorem heads23 (r : Fin 512) (u : Fin 2) (j : Fin 128) :
    k0_pay164 (F := Ideal) C S sc A W (ix3 r u j)
      = rot (fun j => lin A W sc 1 r ⟨128 * u.val + j.val, by omega⟩) (fun j => C (ix2 r j)) (fun j => S (ix2 r j)) j := by
  unfold rot lin
  match u with
  | 0 => pointwise [k0_pay164]
  | 1 => pointwise [k0_pay164]

set_option maxHeartbeats 1000000 in
/-- Heads four and five of the queries. -/
theorem heads45 (r : Fin 512) (u : Fin 2) (j : Fin 128) :
    k0_pay169 (F := Ideal) S (k0_pay166 C S sc A W) (k0_pay167 sc A W) (k0_pay168 C sc A W) (ix3 r u j)
      = rot (fun j => lin A W sc 2 r ⟨128 * u.val + j.val, by omega⟩) (fun j => C (ix2 r j)) (fun j => S (ix2 r j)) j := by
  unfold rot lin
  match u with
  | 0 => pointwise [k0_pay169, k0_pay168, k0_pay167, k0_pay166, k0_pay165]
  | 1 => pointwise [k0_pay169, k0_pay168, k0_pay167, k0_pay166, k0_pay165]

set_option maxHeartbeats 1000000 in
/-- Heads six and seven of the queries. -/
theorem heads67 (r : Fin 512) (u : Fin 2) (j : Fin 128) :
    k0_pay170 (F := Ideal) C S sc A W (ix3 r u j)
      = rot (fun j => lin A W sc 3 r ⟨128 * u.val + j.val, by omega⟩) (fun j => C (ix2 r j)) (fun j => S (ix2 r j)) j := by
  unfold rot lin
  match u with
  | 0 => pointwise [k0_pay170]
  | 1 => pointwise [k0_pay170]

/-- The keys' head. -/
theorem keys (r : Fin 512) (j : Fin 128) :
    k0_pay1 (F := Ideal) S (k0_pay172 sc A W) (k0_pay173 C sc A W) (ix2 r j)
      = rot (fun j => lin A W sc 4 r ⟨j.val, by omega⟩) (fun j => C (ix2 r j)) (fun j => S (ix2 r j)) j := by
  pointwise [k0_pay1, k0_pay172, k0_pay173, k0_pay171, rot, lin]

/-- The values' head, which is not rotated. -/
theorem vals (r : Fin 512) (j : Fin 128) :
    k0_pay2 (F := Ideal) (k0_pay171 sc A W) (ix2 r j) = lin A W sc 4 r ⟨128 + j.val, by omega⟩ := by
  pointwise [k0_pay2, k0_pay171, lin]

/-- Heads zero and one, over the tables and the scales written out. -/
theorem heads01 (v0 : Elt Ideal .f32) (v23 : IVec S128x128 1) (v94 v97 v168 v171 v242 v245 : FVec Ideal S128x128 .f32) (v277 : IVec S128x128 32)
    (v288 v300 : FVec Ideal S128x128 .f32) (cst : Ideal .f32) (v322 : Vec Ideal S1x1280 .f32) (r : Fin 512) (u : Fin 2) (j : Fin 128) :
    k0_pay163 (F := Ideal) (k0_pay161 v0 v23 v94 v97 v168 v171 v242 v245 v277 v288 v300 cst v322 A W)
        (k0_pay162 v0 v23 v94 v97 v168 v171 v242 v245 v277 v288 v300 cst v322 A W) (ix3 r u j)
      = rot (fun j => lin A W (k0_pay159 v0 v322) 0 r ⟨128 * u.val + j.val, by omega⟩)
          (fun j => k0_pay157 v23 v94 v168 v242 v277 v288 v300 cst (ix2 r j)) (fun j => k0_pay158 v23 v97 v171 v245 v277 v288 v300 cst (ix2 r j)) j := by
  unfold k0_pay161 k0_pay162 k0_pay160
  generalize k0_pay157 v23 v94 v168 v242 v277 v288 v300 cst = C
  generalize k0_pay158 v23 v97 v171 v245 v277 v288 v300 cst = S
  generalize k0_pay159 v0 v322 = sc
  unfold rot lin
  match u with
  | 0 => pointwise [k0_pay163]
  | 1 => pointwise [k0_pay163]

/-! ## The tables, all 512 rows -/

/-- Four parts of 128 rows make the 512. -/
theorem parts (A B C D : FVec Ideal S128x128 .f32) (g : Fin 512 → Fin 128 → EReal)
    (hA : ∀ r j : Fin 128, A (ix2 r j) = g ⟨0 + r.val, by omega⟩ j) (hB : ∀ r j : Fin 128, B (ix2 r j) = g ⟨128 + r.val, by omega⟩ j)
    (hC : ∀ r j : Fin 128, C (ix2 r j) = g ⟨256 + r.val, by omega⟩ j) (hD : ∀ r j : Fin 128, D (ix2 r j) = g ⟨384 + r.val, by omega⟩ j)
    (r : Fin 512) (j : Fin 128) :
    concatenate S512x128 0 [⟨S128x128, A⟩, ⟨S128x128, B⟩, ⟨S128x128, C⟩, ⟨S128x128, D⟩] concatenates_S128x128_S128x128_S128x128_S128x128_S512x128_d0 (ix2 r j)
      = g r j := by
  pointwise []
  split_ifs
  all_goals first
    | exact (hA _ _).trans (congrArg (g · j) (Fin.ext (by show 0 + r.val = r.val; omega)))
    | exact (hB _ _).trans (congrArg (g · j) (Fin.ext (by show 128 + (r.val - 128) = r.val; omega)))
    | exact (hC _ _).trans (congrArg (g · j) (Fin.ext (by show 256 + (r.val - 128 - 128) = r.val; omega)))
    | exact (hD _ _).trans (congrArg (g · j) (Fin.ext (by show 384 + (r.val - 128 - 128 - 128) = r.val; omega)))

variable (i : grid0.Coords) (c : Dev nD)
  (arg2 : Memref sig .tc .vmem S2x512 .i32) (harg2 : arg2.IsWhole) (arg7 : Memref sig .tc .vmem S1x128 .f32) (harg7 : arg7.IsWhole)
  (x1 : Vec Ideal S2x512 .i32) (x6 : Vec Ideal S1x128 .f32) (F : Fin 64 → EReal)

/-- A load of 128 positions, read at an index. -/
theorem pos_load (o : ℕ) (ho : o + 128 ≤ 512) (inb : ∀ a, (![0, o] : Fin 2 → ℕ) a + S2x128.size a ≤ S2x512.size a) (b : Fin 2) (r : Fin 128) :
    View.readAt (Elt Ideal) arg2.view (Rect.unit (s := S2x512) ![0, o] S2x128.size inb).toLoadRect (harg2.unread x1) (ix2 b r)
      = x1 (ix2 b ⟨o + r.val, by omega⟩) := by
  rw [View.readAt_eq_ld, harg2.read_unread]
  pointwise

/-- The load of the frequencies. -/
theorem freq_load (inb : ∀ a, (![0, 0] : Fin 2 → ℕ) a + S1x128.size a ≤ S1x128.size a) (j : Fin 128) :
    View.readAt (Elt Ideal) arg7.view (Rect.unit (s := S1x128) ![0, 0] S1x128.size inb).toLoadRect (harg7.unread x6) (ix2 0 j)
      = x6 (ix2 0 j) := by
  rw [View.readAt_eq_ld, harg7.read_unread]
  pointwise

/-- The cosines of the block's 512 rows. -/
theorem cos_table (hf : ∀ j : Fin 128, x6 (ix2 0 j) = F (half j)) (r : Fin 512) (j : Fin 128) :
    kernelRun0_A.sl.r_24 (F := Ideal) c i arg2 harg2 arg7 harg7 x1 x6 (ix2 r j)
      = Spec.quad (FloatOps.sitofp (F := Ideal) .f32 (x1 (ix2 (seq i) r)) * F (half j)) 1#32 := by
  have hf' : ∀ j : Fin 128, View.readAt (Elt Ideal) arg7.view (Rect.unit (s := S1x128) ![0, 0] S1x128.size inb_S1x128_S1x128_0_0).toLoadRect (harg7.unread x6) (ix2 0 j) = F (half j) :=
    fun j => (freq_load arg7 harg7 x6 _ j).trans (hf j)
  refine parts _ _ _ _ (fun r j => Spec.quad (FloatOps.sitofp (F := Ideal) .f32 (x1 (ix2 (seq i) r)) * F (half j)) 1#32) ?_ ?_ ?_ ?_ r j <;> intro r j
  · refine (Tables.cos1 i _ _ F hf' r j).trans ?_
    rw [pos_load arg2 harg2 x1 0 (by norm_num)]
  · refine (Tables.cos2 i _ _ F hf' r j).trans ?_
    rw [pos_load arg2 harg2 x1 128 (by norm_num)]
  · refine (Tables.cos3 i _ _ F hf' r j).trans ?_
    rw [pos_load arg2 harg2 x1 256 (by norm_num)]
  · refine (Tables.cos4 i _ _ F hf' r j).trans ?_
    rw [pos_load arg2 harg2 x1 384 (by norm_num)]

/-- The signed sines of the block's 512 rows. -/
theorem sin_table (hf : ∀ j : Fin 128, x6 (ix2 0 j) = F (half j)) (r : Fin 512) (j : Fin 128) :
    kernelRun0_A.sl.r_25 (F := Ideal) c i arg2 harg2 arg7 harg7 x1 x6 (ix2 r j)
      = sgn j (Spec.quad (FloatOps.sitofp (F := Ideal) .f32 (x1 (ix2 (seq i) r)) * F (half j)) 0#32) := by
  have hf' : ∀ j : Fin 128, View.readAt (Elt Ideal) arg7.view (Rect.unit (s := S1x128) ![0, 0] S1x128.size inb_S1x128_S1x128_0_0).toLoadRect (harg7.unread x6) (ix2 0 j) = F (half j) :=
    fun j => (freq_load arg7 harg7 x6 _ j).trans (hf j)
  refine parts _ _ _ _ (fun r j => sgn j (Spec.quad (FloatOps.sitofp (F := Ideal) .f32 (x1 (ix2 (seq i) r)) * F (half j)) 0#32)) ?_ ?_ ?_ ?_ r j <;> intro r j
  · refine (Tables.sin1 i _ _ F hf' r j).trans ?_
    rw [pos_load arg2 harg2 x1 0 (by norm_num)]
  · refine (Tables.sin2 i _ _ F hf' r j).trans ?_
    rw [pos_load arg2 harg2 x1 128 (by norm_num)]
  · refine (Tables.sin3 i _ _ F hf' r j).trans ?_
    rw [pos_load arg2 harg2 x1 256 (by norm_num)]
  · refine (Tables.sin4 i _ _ F hf' r j).trans ?_
    rw [pos_load arg2 harg2 x1 384 (by norm_num)]

/-! ## The five blocks -/

/-- Entry `l` of a row's product with the weights: the row's codes times the column, times the scales. -/
def lane (x0 : S1.Idx → EReal) (x2 : S512x8192.Idx → EReal) (x3 : S1x8192.Idx → EReal) (x4 : S8192x1280.Idx → EReal) (x5 : S1x1280.Idx → EReal)
    (r : Fin 512) (l : Fin 1280) : EReal :=
  (∑ d : Fin 8192, Trip.codes x2 x3 (x0 (ix1 0)) (ix2 r d) * x4 (ix2 d l)) * (x5 (ix2 0 l) * x0 (ix1 0))

variable (arg1 : Memref sig .tc .smem S1 .f32) (harg1 : arg1.IsWhole)
  (arg3 : Memref sig .tc .vmem S512x8192 .bf16) (harg3 : arg3.IsWhole) (arg4 : Memref sig .tc .vmem S1x8192 .bf16) (harg4 : arg4.IsWhole)
  (arg5 : Memref sig .tc .vmem S8192x1280 .fp8e4m3) (harg5 : arg5.IsWhole) (arg6 : Memref sig .tc .vmem S1x1280 .f32) (harg6 : arg6.IsWhole)
  (arg8 : Memref sig .tc .vmem S512x8x128 .bf16) (harg8 : arg8.IsWhole)
  (arg9 : Memref sig .tc .vmem S512x128 .bf16) (harg9 : arg9.IsWhole) (arg10 : Memref sig .tc .vmem S512x128 .bf16) (harg10 : arg10.IsWhole)
  (arg11 : Memref sig .tc .vmem S512x8192 .fp8e4m3) (harg11 : arg11.IsWhole) (arg12 : Memref sig .tc .smem S1 .f32) (harg12 : arg12.IsWhole)
  (x0 : Vec Ideal S1 .f32) (x2 : Vec Ideal S512x8192 .bf16) (x3 : Vec Ideal S1x8192 .bf16) (x4 : Vec Ideal S8192x1280 .fp8e4m3)
  (x5 : Vec Ideal S1x1280 .f32)

/-- The scalar the body loads first. -/
theorem act_load : kernelRun0_A.sl.r (F := Ideal) c arg1 harg1 x0 = x0 (ix1 0) := by
  unfold kernelRun0_A.sl.r
  rw [View.readAt_eq_ld, harg1.read_unread]
  exact congrArg x0 (funext fun a => match a with | ⟨0, _⟩ => Fin.ext rfl)

/-- The codes read back after the loop. -/
theorem codes_load (h) : arg11.view.readCov
      (pb_k0_t1 (F := Ideal) Variants.none c none i arg1 harg1 arg2 harg2 arg3 harg3 arg4 harg4 arg5 harg5 arg6 harg6 arg7 harg7 arg8 harg8 arg9 harg9 arg10 harg10 arg11 harg11 arg12 harg12
        (kernelRun0_A.sl.r c arg1 harg1 x0) (harg3.unread x2) (harg4.unread x3) (Scf.trips k0_t1_loop.lb k0_t1_loop.ub k0_t1_loop.st))
      (Rect.unit (s := S512x8192) ![0, 0] S512x8192.size h).toLoadRect
    = Trip.codes x2 x3 (x0 (ix1 0)) := by
  rw [View.readCov_eq_canon', Trip.pb_canon, act_load, harg3.read_unread, harg4.read_unread]
  funext y
  refine congrArg (Trip.codes x2 x3 (x0 (ix1 0))) (funext fun a => Fin.ext ?_)
  match a with
  | ⟨0, _⟩ => show 0 + 1 * _ = _; rw [Nat.one_mul, Nat.zero_add]
  | ⟨1, _⟩ => show 0 + 1 * _ = _; rw [Nat.one_mul, Nat.zero_add]

/-- The load of 256 columns of the weights. -/
theorem w_load (o : ℕ) (ho : o + 256 ≤ 1280) (inb : ∀ a, (![0, o] : Fin 2 → ℕ) a + S8192x256.size a ≤ S8192x1280.size a) (d : Fin 8192) (l : Fin 256) :
    View.readAt (Elt Ideal) arg5.view (Rect.unit (s := S8192x1280) ![0, o] S8192x256.size inb).toLoadRect (harg5.unread x4) (ix2 d l)
      = x4 (ix2 d ⟨o + l.val, by omega⟩) := by
  rw [View.readAt_eq_ld, harg5.read_unread]
  pointwise

/-- The output scales times the activation scale. -/
theorem scale_at (l : Fin 1280) : kernelRun0_A.sl.r_26 (F := Ideal) c arg1 harg1 arg6 harg6 x0 x5 (ix2 0 l) = x5 (ix2 0 l) * x0 (ix1 0) := by
  unfold kernelRun0_A.sl.r_26
  rw [act_load, View.readAt_eq_ld, harg6.read_unread]
  pointwise [k0_pay159]

/-- A group's entry is the row's. -/
theorem lin_eq (A : S512x8192.Idx → EReal) (W : S8192x256.Idx → EReal) (sc : S1x1280.Idx → EReal) (o : Fin 5)
    (hA : A = Trip.codes x2 x3 (x0 (ix1 0))) (hW : ∀ d l, W (ix2 d l) = x4 (ix2 d ⟨256 * o.val + l.val, by omega⟩))
    (hs : ∀ l, sc (ix2 0 l) = x5 (ix2 0 l) * x0 (ix1 0)) (r : Fin 512) (l : Fin 256) :
    lin A W sc o r l = lane x0 x2 x3 x4 x5 r ⟨256 * o.val + l.val, by omega⟩ := by
  subst hA
  unfold lin lane
  simp only [hW, hs]

/-- The codes' block. -/
theorem out10 : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Trip.codes x2 x3 (x0 (ix1 0)) := by
  unfold out0_A_10
  rw [View.read_writes_junk_eq_canon]
  unfold kernelRun0_A
  dsimp only
  refine (Trip.pb_canon Variants.none c none i arg1 harg1 arg2 harg2 arg3 harg3 arg4 harg4 arg5 harg5 arg6 harg6 arg7 harg7 arg8 harg8 arg9 harg9 arg10 harg10 arg11 harg11 arg12 harg12 _ _ _).trans ?_
  rw [act_load, harg3.read_unread, harg4.read_unread]

/-- The activation scale's. -/
theorem out11 : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix1 0) = x0 (ix1 0) := by
  unfold out0_A_11
  rw [View.read_writes_junk_eq_canon]
  unfold kernelRun0_A
  dsimp only
  unfold kernelRun0_A.sl.H11_1
  rw [View.canon_cons_unit_lit _ _ _ (by decide +kernel)]
  exact act_load c arg1 harg1 x0

/-- The values' block. -/
theorem out9 (r : Fin 512) (j : Fin 128) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r j)
    = lane x0 x2 x3 x4 x5 r ⟨1152 + j.val, by omega⟩ := by
  unfold out0_A_9
  rw [View.read_writes_junk_eq_canon]
  unfold kernelRun0_A
  dsimp only
  rw [View.canon_cons_unit_lit _ _ _ (by decide +kernel)]
  unfold kernelRun0_A.sl.r_32
  refine (vals _ _ _ r j).trans ?_
  refine (lin_eq x0 x2 x3 x4 x5 _ _ _ 4 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 1024 (by norm_num) _) (scale_at c arg1 harg1 arg6 harg6 x0 x5) r _).trans ?_
  refine congrArg (lane x0 x2 x3 x4 x5 r) (Fin.ext ?_)
  show 256 * 4 + (128 + j.val) = 1152 + j.val
  omega

/-- A rotated head of the block: head `h` of the ten. -/
def head (i : grid0.Coords) (F : Fin 64 → EReal) (x0 : S1.Idx → EReal) (x1 : S2x512.Idx → BitVec 32) (x2 : S512x8192.Idx → EReal) (x3 : S1x8192.Idx → EReal)
    (x4 : S8192x1280.Idx → EReal) (x5 : S1x1280.Idx → EReal) (r : Fin 512) (h : Fin 10) (j : Fin 128) : EReal :=
  rot (fun j => lane x0 x2 x3 x4 x5 r ⟨128 * h.val + j.val, by omega⟩)
    (fun j => Spec.quad (FloatOps.sitofp (F := Ideal) .f32 (x1 (ix2 (seq i) r)) * F (half j)) 1#32)
    (fun j => sgn j (Spec.quad (FloatOps.sitofp (F := Ideal) .f32 (x1 (ix2 (seq i) r)) * F (half j)) 0#32)) j

/-- A rotation of groups' entries and tables is the head's. -/
theorem head_eq (hf : ∀ j : Fin 128, x6 (ix2 0 j) = F (half j)) (r : Fin 512) (h : Fin 10) (j : Fin 128) (y : Fin 128 → EReal)
    (hy : ∀ j, y j = lane x0 x2 x3 x4 x5 r ⟨128 * h.val + j.val, by omega⟩) :
    rot y (fun j => kernelRun0_A.sl.r_24 (F := Ideal) c i arg2 harg2 arg7 harg7 x1 x6 (ix2 r j))
        (fun j => kernelRun0_A.sl.r_25 (F := Ideal) c i arg2 harg2 arg7 harg7 x1 x6 (ix2 r j)) j
      = head i F x0 x1 x2 x3 x4 x5 r h j := by
  unfold head rot
  simp only [hy]
  rw [cos_table i c arg2 harg2 arg7 harg7 x1 x6 F hf, sin_table i c arg2 harg2 arg7 harg7 x1 x6 F hf]

/-- The keys' block. -/
theorem out8 (hf : ∀ j : Fin 128, x6 (ix2 0 j) = F (half j)) (r : Fin 512) (j : Fin 128) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r j) = head i F x0 x1 x2 x3 x4 x5 r 8 j := by
  unfold out0_A_8
  rw [View.read_writes_junk_eq_canon]
  unfold kernelRun0_A
  dsimp only
  rw [View.canon_cons_unit_lit _ _ _ (by decide +kernel)]
  unfold kernelRun0_A.sl.r_33 kernelRun0_A.sl.r_34
  refine (keys _ _ _ _ _ r j).trans (head_eq i c arg2 harg2 arg7 harg7 x1 x6 F x0 x2 x3 x4 x5 hf r 8 j _ fun j => ?_)
  exact (lin_eq x0 x2 x3 x4 x5 _ _ _ 4 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 1024 (by norm_num) _) (scale_at c arg1 harg1 arg6 harg6 x0 x5) r _)

/-- A pair of heads stored in the queries' block: it is the block's there if each of its rows is. -/
theorem pair_tile (G : Fin 512 → Fin 8 → Fin 128 → EReal) (o : ℕ) (ho : o + 2 ≤ 8)
    (inb : ∀ a, (![0, o, 0] : Fin 3 → ℕ) a + S512x2x128.size a ≤ S512x8x128.size a) (V : S512x2x128.Idx → EReal)
    (h : ∀ r u j, V (ix3 r u j) = G r ⟨o + u.val, by omega⟩ j) (x : S512x2x128.Idx) :
    V x = (fun y : S512x8x128.Idx => G (y 0) (y 1) (y 2)) ((Rect.unit (s := S512x8x128) ![0, o, 0] S512x2x128.size inb).emb x) := by
  obtain ⟨r, u, j, rfl⟩ : ∃ (r : Fin 512) (u : Fin 2) (j : Fin 128), x = ix3 r u j := ⟨x 0, x 1, x 2, eq_ix3 x⟩
  rw [h]
  have e : (Rect.unit (s := S512x8x128) ![0, o, 0] S512x2x128.size inb).emb (ix3 r u j) = ix3 r ⟨o + u.val, by omega⟩ j := by
    funext a
    match a with
    | ⟨0, _⟩ => exact Fin.ext (by show 0 + 1 * r.val = _; rw [Nat.one_mul, Nat.zero_add]; rfl)
    | ⟨1, _⟩ => exact Fin.ext (by show o + 1 * u.val = _; rw [Nat.one_mul]; rfl)
    | ⟨2, _⟩ => exact Fin.ext (by show 0 + 1 * j.val = _; rw [Nat.one_mul, Nat.zero_add]; rfl)
  rw [e]
  rfl

/-- The queries' block. -/
theorem out7 (hf : ∀ j : Fin 128, x6 (ix2 0 j) = F (half j)) (r : Fin 512) (h : Fin 8) (j : Fin 128) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 r h j) = head i F x0 x1 x2 x3 x4 x5 r ⟨h.val, by omega⟩ j := by
  unfold out0_A_7
  rw [View.read_writes_junk_eq_canon]
  refine View.canon_apply_of_pieces (fun y : S512x8x128.Idx => head i F x0 x1 x2 x3 x4 x5 (y 0) ⟨(y 1).val, Nat.lt_trans (y 1).isLt (by norm_num)⟩ (y 2)) _ ?_ (ix3 r h j)
    (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 _)
  refine fun p hp x => View.PiecesOf.mem (G := fun y : S512x8x128.Idx => head i F x0 x1 x2 x3 x4 x5 (y 0) ⟨(y 1).val, Nat.lt_trans (y 1).isLt (by norm_num)⟩ (y 2)) ?_ p hp x
  clear p hp x
  unfold kernelRun0_A
  dsimp only
  refine ⟨pair_tile (fun r h j => head i F x0 x1 x2 x3 x4 x5 r ⟨h.val, by omega⟩ j) 6 (by norm_num) inb_S512x8x128_S512x2x128_0_6_0 _ fun r u j => ?_,
    pair_tile (fun r h j => head i F x0 x1 x2 x3 x4 x5 r ⟨h.val, by omega⟩ j) 4 (by norm_num) inb_S512x8x128_S512x2x128_0_4_0 _ fun r u j => ?_,
    pair_tile (fun r h j => head i F x0 x1 x2 x3 x4 x5 r ⟨h.val, by omega⟩ j) 2 (by norm_num) inb_S512x8x128_S512x2x128_0_2_0 _ fun r u j => ?_,
    pair_tile (fun r h j => head i F x0 x1 x2 x3 x4 x5 r ⟨h.val, by omega⟩ j) 0 (by norm_num) inb_S512x8x128_S512x2x128_0_0_0 _ fun r u j => ?_, trivial⟩
  · refine (heads67 _ _ _ _ _ r u j).trans (head_eq i c arg2 harg2 arg7 harg7 x1 x6 F x0 x2 x3 x4 x5 hf r ⟨6 + u.val, by omega⟩ j _ fun j => ?_)
    refine (lin_eq x0 x2 x3 x4 x5 _ _ _ 3 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 768 (by norm_num) _) (scale_at c arg1 harg1 arg6 harg6 x0 x5) r _).trans (congrArg (lane x0 x2 x3 x4 x5 r) (Fin.ext ?_))
    show 256 * 3 + (128 * u.val + j.val) = 128 * (6 + u.val) + j.val
    omega
  · unfold kernelRun0_A.sl.r_29 kernelRun0_A.sl.r_30 kernelRun0_A.sl.r_31
    refine (heads45 _ _ _ _ _ r u j).trans (head_eq i c arg2 harg2 arg7 harg7 x1 x6 F x0 x2 x3 x4 x5 hf r ⟨4 + u.val, by omega⟩ j _ fun j => ?_)
    refine (lin_eq x0 x2 x3 x4 x5 _ _ _ 2 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 512 (by norm_num) _) (scale_at c arg1 harg1 arg6 harg6 x0 x5) r _).trans (congrArg (lane x0 x2 x3 x4 x5 r) (Fin.ext ?_))
    show 256 * 2 + (128 * u.val + j.val) = 128 * (4 + u.val) + j.val
    omega
  · refine (heads23 _ _ _ _ _ r u j).trans (head_eq i c arg2 harg2 arg7 harg7 x1 x6 F x0 x2 x3 x4 x5 hf r ⟨2 + u.val, by omega⟩ j _ fun j => ?_)
    refine (lin_eq x0 x2 x3 x4 x5 _ _ _ 1 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 256 (by norm_num) _) (scale_at c arg1 harg1 arg6 harg6 x0 x5) r _).trans (congrArg (lane x0 x2 x3 x4 x5 r) (Fin.ext ?_))
    show 256 * 1 + (128 * u.val + j.val) = 128 * (2 + u.val) + j.val
    omega
  · unfold kernelRun0_A.sl.r_27 kernelRun0_A.sl.r_28
    refine (heads01 _ _ _ _ _ _ _ _ _ _ _ _ _ _ _ r u j).trans (head_eq i c arg2 harg2 arg7 harg7 x1 x6 F x0 x2 x3 x4 x5 hf r ⟨0 + u.val, by omega⟩ j _ fun j => ?_)
    refine (lin_eq x0 x2 x3 x4 x5 _ _ _ 0 (codes_load i c arg2 harg2 arg7 harg7 arg1 harg1 arg3 harg3 arg4 harg4 arg5 harg5 arg6 harg6 arg8 harg8 arg9 harg9 arg10 harg10 arg11 harg11 arg12 harg12 x0 x2 x3 _) (w_load arg5 harg5 x4 0 (by norm_num) _) (scale_at c arg1 harg1 arg6 harg6 x0 x5) r _).trans (congrArg (lane x0 x2 x3 x4 x5 r) (Fin.ext ?_))
    show 256 * 0 + (128 * u.val + j.val) = 128 * (0 + u.val) + j.val
    omega

end Cert.KernelIdeal.Block
-- ==== Proof.KernelValue.lean ====
module

public import proofs.«01_k».proof.Proof.Block
public import proofs.«01_k».proof.Proof.Gen.KernelIdeal.Value
public import Idealize.ShloMosaic.Lib.StableHlo.ReadAt

@[expose] public section

/-! # The kernel's five results, as functions of its arguments -/

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## The arguments as functions -/

/-- The input: sequence, place, channel. -/
def x (b : Fin 2) (t : Fin 6144) (d : Fin 8192) : EReal := m ((c : Thread nD τ).loc main_arg0) (ix3 b t d)
/-- The norm's weights. -/
def w (d : Fin 8192) : EReal := m ((c : Thread nD τ).loc main_arg1) (ix1 d)
/-- The projection's weights. -/
def W (d : Fin 8192) (l : Fin 1280) : EReal := m ((c : Thread nD τ).loc main_arg2) (ix2 d l)
/-- The projection's scales. -/
def ws (l : Fin 1280) : EReal := m ((c : Thread nD τ).loc main_arg3) (ix1 l)
/-- The positions. -/
def p (b : Fin 2) (t : Fin 6144) : BitVec 32 := m ((c : Thread nD τ).loc main_arg4) (ix2 b t)
/-- The activation scale. -/
def s : EReal := m ((c : Thread nD τ).loc main_arg5) ix0
/-- The frequencies: the first 64 lanes of the kernel's constant. -/
def freq (j : Fin 64) : EReal := Ideal.ofBits .f32 (lit0 ⟨j.val, by omega⟩)

/-! ## The blocks of the inputs -/

/-- Where each window's block lies at a grid point. -/
theorem idx : ∀ t : Fin grid0.N, win0_0.index t = ![0] ∧ win0_1.index t = ![0, t.val % 12] ∧ win0_2.index t = ![t.val, 0] ∧ win0_3.index t = ![0, 0]
    ∧ win0_4.index t = ![0, 0] ∧ win0_5.index t = ![0, 0] ∧ win0_6.index t = ![0, 0] ∧ win0_7.index t = ![t.val, 0, 0] ∧ win0_8.index t = ![t.val, 0]
    ∧ win0_9.index t = ![t.val, 0] ∧ win0_10.index t = ![t.val, 0] := by decide +kernel

/-- There are 24 points. -/
theorem tval (t : Fin cfg0.N) : t.val < 24 := t.isLt

/-- The array's row of a block's row. -/
def row (t : Fin cfg0.N) (r : Fin 512) : Fin 12288 := ⟨t.val * 512 + r.val, by have := tval t; omega⟩

/-- The activation scale, as the kernel reads it. -/
theorem act_at : (V m c main_v1 : S1.Idx → EReal) (ix1 0) = s m c := by
  unfold V s
  after_reads_at

/-- A row of the input, both sequences in one. -/
theorem x_at (n : Fin 12288) (d : Fin 8192) : (V m c main_v2 : S12288x8192.Idx → EReal) (ix2 n d) = x m c (Spec.seq n) (Spec.place n) d := by
  unfold V x
  after_reads_at
  rfl

/-- The norm's weights, as a row. -/
theorem w_at (d : Fin 8192) : (V m c main_v3 : S1x8192.Idx → EReal) (ix2 0 d) = w m c d := by
  unfold V w
  after_reads_at

/-- The output scales, as a row. -/
theorem ws_at (l : Fin 1280) : (V m c main_v4 : S1x1280.Idx → EReal) (ix2 0 l) = ws m c l := by
  unfold V ws
  after_reads_at

/-- The rank-one index's place is its coordinate. -/
theorem rowMajor128 (j : Fin 128) : S128.rowMajor (ix1 j) = j := by
  exact Fin.ext (by rw [Shape.rowMajor_val_one]; rfl)

/-- The constant's second half repeats its first. -/
theorem lit_half : ∀ j : Fin 128, lit0 j = lit0 ⟨(Tables.half j).val, by omega⟩ := by decide +kernel

/-- The frequencies, as a row of 128 lanes. -/
theorem freq_at (j : Fin 128) : (V m c main_v0 : S1x128.Idx → EReal) (ix2 0 j) = freq (Tables.half j) := by
  have h : (V m c main_v0 : S1x128.Idx → EReal) (ix2 0 j) = Ideal.ofBits .f32 (lit0 j) := by
    unfold V
    after_reads_at
    rw [rowMajor128]
  rw [h, lit_half j]
  rfl

/-- The block of the activation scale. -/
theorem act_blk (t : Fin cfg0.N) : (iblk m c 0 t : S1.Idx → EReal) (ix1 0) = s m c := by
  rw [← act_at]
  blk_ext [iblk, idx t]

/-- A block of the positions. -/
theorem pos_blk (t : Fin cfg0.N) (b : Fin 2) (r : Fin 512) : (iblk m c 1 t : S2x512.Idx → BitVec 32) (ix2 b r)
    = p m c b ⟨512 * (t.val % 12) + r.val, by omega⟩ := by
  unfold p
  blk_ext [iblk, V, idx t]

/-- A block of the input: 512 rows. -/
theorem x_blk (t : Fin cfg0.N) (r : Fin 512) (d : Fin 8192) : (iblk m c 2 t : S512x8192.Idx → EReal) (ix2 r d)
    = x m c (Spec.seq (row t r)) (Spec.place (row t r)) d := by
  rw [← x_at]
  blk_ext [iblk, idx t]
  rfl

/-- The block of the norm's weights. -/
theorem w_blk (t : Fin cfg0.N) (d : Fin 8192) : (iblk m c 3 t : S1x8192.Idx → EReal) (ix2 0 d) = w m c d := by
  rw [← w_at]
  blk_ext [iblk, idx t]

/-- The block of the weights. -/
theorem W_blk (t : Fin cfg0.N) (d : Fin 8192) (l : Fin 1280) : (iblk m c 4 t : S8192x1280.Idx → EReal) (ix2 d l) = W m c d l := by
  unfold W
  blk_ext [iblk, V, idx t]

/-- The block of the output scales. -/
theorem ws_blk (t : Fin cfg0.N) (l : Fin 1280) : (iblk m c 5 t : S1x1280.Idx → EReal) (ix2 0 l) = ws m c l := by
  rw [← ws_at]
  blk_ext [iblk, idx t]

/-- The block of the frequencies. -/
theorem freq_blk (t : Fin cfg0.N) (j : Fin 128) : (iblk m c 6 t : S1x128.Idx → EReal) (ix2 0 j) = freq (Tables.half j) := by
  rw [← freq_at m c]
  blk_ext [iblk, idx t]

/-! ## A point's results -/

/-- The grid's one coordinate is its point. -/
theorem coord : ∀ t : Fin grid0.N, (grid0.coords t 0).val = t.val := by decide +kernel

/-- A row's position, read at its sequence. -/
theorem pos_row (t : Fin cfg0.N) (r : Fin 512) : (iblk m c 1 t : S2x512.Idx → BitVec 32) (ix2 (Tables.seq (grid0.coords t)) r)
    = p m c (Spec.seq (row t r)) (Spec.place (row t r)) := by
  rw [pos_blk]
  have := tval t
  congr 1
  · refine Fin.ext ?_
    simp only [Tables.seq, Spec.seq, row, coord t]
    omega
  · refine Fin.ext ?_
    simp only [Spec.place, row]
    omega

/-- A row's codes, read off its block. -/
theorem codes_row (t : Fin cfg0.N) (r : Fin 512) (d : Fin 8192) :
    Trip.codes (iblk m c 2 t) (iblk m c 3 t) ((iblk m c 0 t : S1.Idx → EReal) (ix1 0)) (ix2 r d) = Spec.codeAt (x m c) (w m c) (s m c) (row t r) d := by
  show Spec.code (fun e => (iblk m c 2 t : S512x8192.Idx → EReal) (ix2 r e)) (fun e => (iblk m c 3 t : S1x8192.Idx → EReal) (ix2 0 e)) _ d = _
  simp only [x_blk, w_blk, act_blk]
  rfl

/-- A lane of a row's product. -/
theorem lane_row (t : Fin cfg0.N) (r : Fin 512) (l : Fin 1280) :
    Block.lane (iblk m c 0 t) (iblk m c 2 t) (iblk m c 3 t) (iblk m c 4 t) (iblk m c 5 t) r l
      = Spec.laneAt (x m c) (w m c) (s m c) (W m c) (ws m c) (row t r) l := by
  unfold Block.lane Spec.laneAt
  have h := codes_row m c t r
  rw [act_blk] at h
  simp only [W_blk, ws_blk, act_blk, h]
  rw [mul_comm (ws m c l), mul_assoc]

/-- The rotation by a signed table is the rotation of halves. -/
theorem rot_turn (y : Fin 128 → EReal) (cs sn : Fin 64 → EReal) (j : Fin 128) :
    Block.rot y (fun j => cs (Tables.half j)) (fun j => Tables.sgn j (sn (Tables.half j))) j = Spec.turn y cs sn j := by
  unfold Block.rot Spec.turn Tables.sgn
  beta_reduce
  by_cases h : j.val < 64
  · rw [dif_pos h, if_pos h]
    have h₁ : Tables.half j = ⟨j.val, h⟩ := Fin.ext (by simp only [Tables.half]; omega)
    have h₂ : (⟨(j.val + 128 - 64) % 128, Nat.mod_lt _ (by norm_num)⟩ : Fin 128) = ⟨64 + j.val, by omega⟩ := Fin.ext (by show (j.val + 128 - 64) % 128 = 64 + j.val; omega)
    rw [h₁, sub_eq_add_neg, ← mul_neg]
    exact congrArg (fun k => y j * cs ⟨j.val, h⟩ + y k * -sn ⟨j.val, h⟩) h₂
  · rw [dif_neg h, if_neg h]
    have h₁ : Tables.half j = ⟨j.val - 64, by omega⟩ := Fin.ext (by simp only [Tables.half]; omega)
    have h₂ : (⟨(j.val + 128 - 64) % 128, Nat.mod_lt _ (by norm_num)⟩ : Fin 128) = ⟨j.val - 64, by omega⟩ := Fin.ext (by show (j.val + 128 - 64) % 128 = j.val - 64; omega)
    have h₃ : (⟨64 + (j.val - 64), by omega⟩ : Fin 128) = j := Fin.ext (by show 64 + (j.val - 64) = _; omega)
    rw [h₁, h₃]
    exact congrArg (fun k => y j * cs ⟨j.val - 64, _⟩ + y k * sn ⟨j.val - 64, _⟩) h₂

/-- A head of a row. -/
theorem head_row (t : Fin cfg0.N) (r : Fin 512) (h : Fin 10) (j : Fin 128) :
    Block.head (grid0.coords t) freq (iblk m c 0 t) (iblk m c 1 t) (iblk m c 2 t) (iblk m c 3 t) (iblk m c 4 t) (iblk m c 5 t) r h j
      = Spec.headAt (x m c) (w m c) (s m c) (W m c) (ws m c) (p m c) freq (row t r) h j := by
  unfold Block.head Spec.headAt
  simp only [lane_row, pos_row]
  rw [rot_turn _ (fun j => Spec.quad (FloatOps.sitofp (F := Ideal) .f32 (p m c (Spec.seq (row t r)) (Spec.place (row t r))) * freq j) 1#32)
    (fun j => Spec.quad (FloatOps.sitofp (F := Ideal) .f32 (p m c (Spec.seq (row t r)) (Spec.place (row t r))) * freq j) 0#32)]
  simp only [Nat.mul_comm 128]

/-- A point's codes. -/
theorem codes_out (t : Fin cfg0.N) (r : Fin 512) (d : Fin 8192) : ((outsAt0 m c t).2.2.2.1 : S512x8192.Idx → EReal) (ix2 r d)
    = Spec.codeAt (x m c) (w m c) (s m c) (row t r) d :=
  (congrFun (Block.out10 (grid0.coords t) c (ms0_1 t) (hs0_1 t) (ms0_6 t) (hs0_6 t) (iblk m c 1 t) (iblk m c 6 t) (ms0_0 t) (hs0_0 t) (ms0_2 t) (hs0_2 t)
    (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t)
    (ms0_11 t) (hs0_11 t) (iblk m c 0 t) (iblk m c 2 t) (iblk m c 3 t) (iblk m c 4 t) (iblk m c 5 t)) (ix2 r d)).trans (codes_row m c t r d)

/-- A point's values. -/
theorem values_out (t : Fin cfg0.N) (r : Fin 512) (j : Fin 128) : ((outsAt0 m c t).2.2.1 : S512x128.Idx → EReal) (ix2 r j)
    = Spec.laneAt (x m c) (w m c) (s m c) (W m c) (ws m c) (row t r) ⟨1152 + j.val, by omega⟩ := by
  unfold outsAt0
  dsimp only
  rw [Block.out9, lane_row]

/-- A point's keys. -/
theorem keys_out (t : Fin cfg0.N) (r : Fin 512) (j : Fin 128) : ((outsAt0 m c t).2.1 : S512x128.Idx → EReal) (ix2 r j)
    = Spec.headAt (x m c) (w m c) (s m c) (W m c) (ws m c) (p m c) freq (row t r) 8 j := by
  unfold outsAt0
  dsimp only
  rw [Block.out8 _ _ _ _ _ _ _ _ freq _ _ _ _ _ _ _ _ _ _ _ _ _ _ _ _ _ _ _ _ _ _ _ _ _ (freq_blk m c t), head_row]

/-- A point's queries. -/
theorem queries_out (t : Fin cfg0.N) (r : Fin 512) (h : Fin 8) (j : Fin 128) : ((outsAt0 m c t).1 : S512x8x128.Idx → EReal) (ix3 r h j)
    = Spec.headAt (x m c) (w m c) (s m c) (W m c) (ws m c) (p m c) freq (row t r) ⟨h.val, by omega⟩ j := by
  unfold outsAt0
  dsimp only
  rw [Block.out7 _ _ _ _ _ _ _ _ freq _ _ _ _ _ _ _ _ _ _ _ _ _ _ _ _ _ _ _ _ _ _ _ _ _ (freq_blk m c t), head_row]

/-- A point's copy of the activation scale. -/
theorem act_out (t : Fin cfg0.N) : ((outsAt0 m c t).2.2.2.2 : S1.Idx → EReal) (ix1 0) = s m c :=
  (Block.out11 (grid0.coords t) c (ms0_1 t) (hs0_1 t) (ms0_6 t) (hs0_6 t) (iblk m c 1 t) (iblk m c 6 t) (ms0_0 t) (hs0_0 t) (ms0_2 t) (hs0_2 t)
    (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t)
    (ms0_11 t) (hs0_11 t) (iblk m c 0 t) (iblk m c 2 t) (iblk m c 3 t) (iblk m c 4 t) (iblk m c 5 t)).trans (act_blk m c t)

/-! ## The five arrays -/

/-- The array of codes. -/
def codesG : S12288x8192.Idx → EReal := fun y => Spec.codeAt (x m c) (w m c) (s m c) (y 0) (y 1)

/-- The array of values. -/
def valuesG : S12288x128.Idx → EReal := fun y =>
  Spec.laneAt (x m c) (w m c) (s m c) (W m c) (ws m c) (y 0) ⟨1152 + (y 1).val, Nat.add_lt_add_left (m := 128) (show (y 1).val < 128 from (y 1).isLt) 1152⟩

/-- The array of keys. -/
def keysG : S12288x128.Idx → EReal := fun y => Spec.headAt (x m c) (w m c) (s m c) (W m c) (ws m c) (p m c) freq (y 0) 8 (y 1)

/-- The array of queries. -/
def queriesG : S12288x8x128.Idx → EReal := fun y =>
  Spec.headAt (x m c) (w m c) (s m c) (W m c) (ws m c) (p m c) freq (y 0) ⟨(y 1).val, lt_of_lt_of_le (show (y 1).val < 8 from (y 1).isLt) (by norm_num)⟩ (y 2)

/-- What the points leave in the codes' array. -/
theorem codes_arr : (dats m 0 c).arrAt 10 cfg0.N = codesG m c := by
  refine (dats m 0 c).arrAt_eq_of_covers 10 _ (by decide +kernel) fun t hf y => ?_
  have e : ((win0_10.blk t).view.emb y : S12288x8192.Idx) = ix2 (row t (y 0)) (y 1) := by blk_ext [row, idx t]
  blk_simp
  rw [after0_10]
  refine (congrArg ((outsAt0 m c t).2.2.2.1 : S512x8192.Idx → EReal) (ValueIdx.eq_ix2 (n0 := 512) (n1 := 8192) y)).trans ?_
  refine (codes_out m c t (y 0) (y 1)).trans ?_
  exact (congrArg (codesG m c) e).symm

/-- What the points leave in the values' array. -/
theorem values_arr : (dats m 0 c).arrAt 9 cfg0.N = valuesG m c := by
  refine (dats m 0 c).arrAt_eq_of_covers 9 _ (by decide +kernel) fun t hf y => ?_
  have e : ((win0_9.blk t).view.emb y : S12288x128.Idx) = ix2 (row t (y 0)) (y 1) := by blk_ext [row, idx t]
  blk_simp
  rw [after0_9]
  refine (congrArg ((outsAt0 m c t).2.2.1 : S512x128.Idx → EReal) (ValueIdx.eq_ix2 (n0 := 512) (n1 := 128) y)).trans ?_
  refine (values_out m c t (y 0) (y 1)).trans ?_
  exact (congrArg (valuesG m c) e).symm

/-- What the points leave in the keys' array. -/
theorem keys_arr : (dats m 0 c).arrAt 8 cfg0.N = keysG m c := by
  refine (dats m 0 c).arrAt_eq_of_covers 8 _ (by decide +kernel) fun t hf y => ?_
  have e : ((win0_8.blk t).view.emb y : S12288x128.Idx) = ix2 (row t (y 0)) (y 1) := by blk_ext [row, idx t]
  blk_simp
  rw [after0_8]
  refine (congrArg ((outsAt0 m c t).2.1 : S512x128.Idx → EReal) (ValueIdx.eq_ix2 (n0 := 512) (n1 := 128) y)).trans ?_
  refine (keys_out m c t (y 0) (y 1)).trans ?_
  exact (congrArg (keysG m c) e).symm

/-- What the points leave in the queries' array. -/
theorem queries_arr : (dats m 0 c).arrAt 7 cfg0.N = queriesG m c := by
  refine (dats m 0 c).arrAt_eq_of_covers 7 _ (by decide +kernel) fun t hf y => ?_
  have e : ((win0_7.blk t).view.emb y : S12288x8x128.Idx) = ix3 (row t (y 0)) (y 1) (y 2) := by blk_ext [row, idx t]
  blk_simp
  rw [after0_7]
  refine (congrArg ((outsAt0 m c t).1 : S512x8x128.Idx → EReal) (ValueIdx.eq_ix3 (n0 := 512) (n1 := 8) (n2 := 128) y)).trans ?_
  refine (queries_out m c t (y 0) (y 1) (y 2)).trans ?_
  exact (congrArg (queriesG m c) e).symm

/-- The activation scale. -/
theorem act_arr : (dats m 0 c).arrAt 11 cfg0.N = (fun _ => s m c : S1.Idx → EReal) := by
  refine (dats m 0 c).arrAt_eq_of_after_last 11 ⟨23, by decide⟩ (by decide +kernel) _ fun j => ?_
  rw [after0_11]
  have h : ∀ i : S1.Idx, i = ix1 0 := fun i => by
    rw [ValueIdx.eq_ix1 i]
    exact congrArg ix1 (Subsingleton.elim (α := Fin 1) _ _)
  refine Eq.trans ?_ (act_out m c ⟨23, by decide⟩)
  exact congrArg ((outsAt0 m c ⟨23, by decide⟩).2.2.2.2 : S1.Idx → EReal) (h _)

end Cert.KernelIdeal.Result
-- ==== Proof.RefBody.lean ====
module

public import proofs.«01_k».proof.Proof.Spec
public import proofs.«01_k».proof.Proof.Gen.ReferenceIdeal.Skeleton
public import Idealize.ShloMosaic.Lib.Pointwise

@[expose] public section

/-! # The reference's region, read at an index -/

set_option maxRecDepth 16384

noncomputable section

namespace Cert.ReferenceIdeal.Body

open Cert.ReferenceIdeal Cert.ReferenceIdeal.Gen Idealize.ShloMosaic Idealize.ShloMosaic.TcCoe Idealize.SL.Sem

/-- Entry `l` of a row's product with the weights, scaled. -/
def lane (P0 : S12288x8192.Idx → EReal) (P1 : S8192x1280.Idx → EReal) (P2 : S1.Idx → EReal) (P3 : S1x1280.Idx → EReal) (n : Fin 12288) (l : Fin 1280) : EReal :=
  (∑ d : Fin 8192, P0 (ix2 n d) * P1 (ix2 d l)) * P2 (ix1 0) * P3 (ix2 0 l)

variable (P0 : Vec Ideal S12288x8192 .f32) (P1 : Vec Ideal S8192x1280 .fp8e4m3) (P2 : Vec Ideal S1 .f32) (P3 : Vec Ideal S1x1280 .f32)
  (P4 P5 : Vec Ideal S12288x64 .f32)

set_option maxHeartbeats 1000000 in
/-- The queries' array. -/
theorem queries (n : Fin 12288) (h : Fin 8) (j : Fin 128) :
    k0_pay6 (F := Ideal) P0 P1 P2 P3 P4 P5 (ix3 n h j)
      = Spec.turn (fun j => lane P0 P1 P2 P3 n ⟨h.val * 128 + j.val, by omega⟩) (fun j => P4 (ix2 n j)) (fun j => P5 (ix2 n j)) j := by
  unfold Spec.turn lane
  pointwise [k0_pay6, k0_pay5, k0_pay4, k0_pay3]

set_option maxHeartbeats 1000000 in
/-- The keys' array. -/
theorem keys (n : Fin 12288) (j : Fin 128) :
    k0_pay7 (F := Ideal) P0 P1 P2 P3 P4 P5 (ix2 n j)
      = Spec.turn (fun j => lane P0 P1 P2 P3 n ⟨1024 + j.val, by omega⟩) (fun j => P4 (ix2 n j)) (fun j => P5 (ix2 n j)) j := by
  unfold Spec.turn lane
  pointwise [k0_pay7, k0_pay5, k0_pay4, k0_pay3]

/-- The values' array, not rotated. -/
theorem values (n : Fin 12288) (j : Fin 128) :
    k0_pay1 (F := Ideal) (k0_pay4 P0 P1 P2 P3) (ix2 n j) = lane P0 P1 P2 P3 n ⟨1152 + j.val, by omega⟩ := by
  unfold lane
  pointwise [k0_pay1, k0_pay4, k0_pay3]

/-- The codes are the clipped array: the cast changes no value here. -/
theorem codes (n : Fin 12288) (d : Fin 8192) : k0_pay3 (F := Ideal) P0 (ix2 n d) = P0 (ix2 n d) := by
  pointwise [k0_pay3]

/-- The activation scale is passed on. -/
theorem act : k0_pay2 (F := Ideal) P2 (ix1 0) = P2 (ix1 0) := by
  pointwise [k0_pay2]

end Cert.ReferenceIdeal.Body
-- ==== Proof.HostValue.lean ====
module

public import proofs.«01_k».proof.Proof.Spec
public import proofs.«01_k».proof.Proof.Gen.ReferenceIdeal.Frame
public import Idealize.ShloMosaic.Lib.Pointwise
public import Idealize.ShloMosaic.Lib.StableHlo.ReadAt

@[expose] public section

/-! # What the reference's host operations hand its region -/

set_option maxRecDepth 16384

noncomputable section

namespace Cert.ReferenceIdeal.HostValue

open Cert.Spec (seq place)
open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- A mean over 8192 elements as a product. -/
theorem mean (x : EReal) : Ideal.div x (Ideal.ofBits .f32 0x46000000#32) = x * Ideal.ofBits .f32 0x39000000#32 := by
  have h : Ideal.ofBits .f32 0x46000000#32 = ((8192 : ℝ) : EReal) := by
    simp [Ideal.ofBits, Ideal.ieee, -EReal.coe_mul]; norm_num
  have h' : Ideal.ofBits .f32 0x39000000#32 = ((1 / 8192 : ℝ) : EReal) := by
    simp [Ideal.ofBits, Ideal.ieee, -EReal.coe_mul]; norm_num
  rw [h, h', Ideal.div_coe (by norm_num)]

/-- The rank-one index's place is its coordinate. -/
theorem rowMajor64 (j : Fin 64) : S64.rowMajor (ix1 j) = j := by
  exact Fin.ext (by rw [Shape.rowMajor_val_one]; rfl)

set_option maxHeartbeats 4000000 in
/-- The codes' array before its cast, row by row. -/
theorem clipped_at (n : Fin 12288) (d : Fin 8192) : (V m c main_v127 : S12288x8192.Idx → EReal) (ix2 n d) =
    Spec.code (fun e => m ((c : Thread nD τ).loc main_arg0) (ix3 (seq n) (place n) e)) (fun e => m ((c : Thread nD τ).loc main_arg1) (ix1 e))
      (m ((c : Thread nD τ).loc main_arg5) ix0) d := by
  unfold V
  after_reads_at
  rw [mean]
  rfl

/-- The output scales, as a row. -/
theorem ws_at (l : Fin 1280) : (V m c main_v128 : S1x1280.Idx → EReal) (ix2 0 l) = m ((c : Thread nD τ).loc main_arg3) (ix1 l) := by
  unfold V
  after_reads_at

/-- The activation scale, as a vector of one. -/
theorem act_at : (V m c main_v129 : S1.Idx → EReal) (ix1 0) = m ((c : Thread nD τ).loc main_arg5) ix0 := by
  unfold V
  after_reads_at

set_option maxHeartbeats 4000000 in
/-- The cosines' array, row by row. -/
theorem cos_at (n : Fin 12288) (j : Fin 64) : (V m c main_v130 : S12288x64.Idx → EReal) (ix2 n j) =
    Spec.quad (FloatOps.sitofp (F := Ideal) .f32 (m ((c : Thread nD τ).loc main_arg4) (ix2 (seq n) (place n))) * Ideal.ofBits .f32 (lit0 j)) 1#32 := by
  unfold V
  after_reads_at
  simp only [rowMajor64]
  simp only [Spec.quad, Spec.quadAbs, Spec.cosPoly, Spec.sinPoly, Spec.rest, Spec.turns, seq, place]

set_option maxHeartbeats 4000000 in
/-- The sines' array, row by row. -/
theorem sin_at (n : Fin 12288) (j : Fin 64) : (V m c main_v131 : S12288x64.Idx → EReal) (ix2 n j) =
    Spec.quad (FloatOps.sitofp (F := Ideal) .f32 (m ((c : Thread nD τ).loc main_arg4) (ix2 (seq n) (place n))) * Ideal.ofBits .f32 (lit0 j)) 0#32 := by
  unfold V
  after_reads_at
  simp only [rowMajor64]
  simp only [Spec.quad, Spec.quadAbs, Spec.cosPoly, Spec.sinPoly, Spec.rest, Spec.turns, seq, place]

end Cert.ReferenceIdeal.HostValue
-- ==== Proof.RefValue.lean ====
module

public import proofs.«01_k».proof.Proof.RefBody
public import proofs.«01_k».proof.Proof.HostValue
public import proofs.«01_k».proof.Proof.Gen.ReferenceIdeal.Value
public import Idealize.ShloMosaic.Lib.Pipeline.ValueKit.Geometry
public import Idealize.ShloMosaic.Lib.Pipeline.ValueKit.Acc

@[expose] public section

/-! # The reference's five results, as functions of its arguments -/

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## The arguments as functions -/

/-- The input: sequence, place, channel. -/
def x (b : Fin 2) (t : Fin 6144) (d : Fin 8192) : EReal := m ((c : Thread nD τ).loc main_arg0) (ix3 b t d)

/-- The norm's weights. -/
def w (d : Fin 8192) : EReal := m ((c : Thread nD τ).loc main_arg1) (ix1 d)

/-- The projection's weights. -/
def W (d : Fin 8192) (l : Fin 1280) : EReal := m ((c : Thread nD τ).loc main_arg2) (ix2 d l)

/-- The projection's scales. -/
def ws (l : Fin 1280) : EReal := m ((c : Thread nD τ).loc main_arg3) (ix1 l)

/-- The positions. -/
def p (b : Fin 2) (t : Fin 6144) : BitVec 32 := m ((c : Thread nD τ).loc main_arg4) (ix2 b t)

/-- The activation scale. -/
def s : EReal := m ((c : Thread nD τ).loc main_arg5) ix0

/-- The frequencies. -/
def freq (j : Fin 64) : EReal := Ideal.ofBits .f32 (lit0 j)

/-! ## The one block of each input is its array -/

/-- Every window's one block begins its array. -/
theorem idx : ∀ t : Fin grid0.N, win0_0.index t = ![0, 0] ∧ win0_1.index t = ![0, 0] ∧ win0_2.index t = ![0, 0] ∧ win0_3.index t = ![0]
    ∧ win0_4.index t = ![0, 0] ∧ win0_5.index t = ![0, 0] ∧ win0_6.index t = ![0, 0, 0] ∧ win0_7.index t = ![0, 0] ∧ win0_8.index t = ![0, 0]
    ∧ win0_9.index t = ![0, 0] ∧ win0_10.index t = ![0] := by decide +kernel

/-- The block of the clipped rows. -/
theorem clipped_blk (t : Fin cfg0.N) (n : Fin 12288) (d : Fin 8192) : (iblk m c 0 t : S12288x8192.Idx → EReal) (ix2 n d)
    = Spec.codeAt (x m c) (w m c) (s m c) n d := by
  refine Eq.trans ?_ (HostValue.clipped_at m c n d)
  blk_ext [iblk, idx t]

/-- The block of the weights. -/
theorem W_blk (t : Fin cfg0.N) (d : Fin 8192) (l : Fin 1280) : (iblk m c 1 t : S8192x1280.Idx → EReal) (ix2 d l) = W m c d l := by
  unfold W
  blk_ext [iblk, V, idx t]

/-- The block of the output scales. -/
theorem ws_blk (t : Fin cfg0.N) (l : Fin 1280) : (iblk m c 2 t : S1x1280.Idx → EReal) (ix2 0 l) = ws m c l := by
  refine Eq.trans ?_ (HostValue.ws_at m c l)
  blk_ext [iblk, idx t]

/-- The block of the activation scale. -/
theorem act_blk (t : Fin cfg0.N) : (iblk m c 3 t : S1.Idx → EReal) (ix1 0) = s m c := by
  refine Eq.trans ?_ (HostValue.act_at m c)
  blk_ext [iblk, idx t]

/-- The block of the cosines. -/
theorem cos_blk (t : Fin cfg0.N) (n : Fin 12288) (j : Fin 64) : (iblk m c 4 t : S12288x64.Idx → EReal) (ix2 n j)
    = Spec.quad (FloatOps.sitofp (F := Ideal) .f32 (p m c (Spec.seq n) (Spec.place n)) * freq j) 1#32 := by
  refine Eq.trans ?_ (HostValue.cos_at m c n j)
  blk_ext [iblk, idx t]

/-- The block of the sines. -/
theorem sin_blk (t : Fin cfg0.N) (n : Fin 12288) (j : Fin 64) : (iblk m c 5 t : S12288x64.Idx → EReal) (ix2 n j)
    = Spec.quad (FloatOps.sitofp (F := Ideal) .f32 (p m c (Spec.seq n) (Spec.place n)) * freq j) 0#32 := by
  refine Eq.trans ?_ (HostValue.sin_at m c n j)
  blk_ext [iblk, idx t]

/-! ## The body's results over the blocks -/

/-- A lane of a row's product. -/
theorem lane_row (t : Fin cfg0.N) (n : Fin 12288) (l : Fin 1280) :
    Body.lane (iblk m c 0 t) (iblk m c 1 t) (iblk m c 3 t) (iblk m c 2 t) n l
      = Spec.laneAt (x m c) (w m c) (s m c) (W m c) (ws m c) n l := by
  unfold Body.lane Spec.laneAt
  simp only [clipped_blk, W_blk, ws_blk, act_blk]

/-- The queries. -/
theorem queries_out (t : Fin cfg0.N) (n : Fin 12288) (h : Fin 8) (j : Fin 128) :
    (k0_pay6 (iblk m c 0 t) (iblk m c 1 t) (iblk m c 3 t) (iblk m c 2 t) (iblk m c 4 t) (iblk m c 5 t) : S12288x8x128.Idx → EReal) (ix3 n h j)
      = Spec.headAt (x m c) (w m c) (s m c) (W m c) (ws m c) (p m c) freq n ⟨h.val, by omega⟩ j := by
  rw [Body.queries]
  unfold Spec.headAt
  simp only [lane_row, cos_blk, sin_blk]

/-- The keys. -/
theorem keys_out (t : Fin cfg0.N) (n : Fin 12288) (j : Fin 128) :
    (k0_pay7 (iblk m c 0 t) (iblk m c 1 t) (iblk m c 3 t) (iblk m c 2 t) (iblk m c 4 t) (iblk m c 5 t) : S12288x128.Idx → EReal) (ix2 n j)
      = Spec.headAt (x m c) (w m c) (s m c) (W m c) (ws m c) (p m c) freq n 8 j := by
  rw [Body.keys]
  unfold Spec.headAt
  simp only [lane_row, cos_blk, sin_blk]
  rfl

/-- The values. -/
theorem values_out (t : Fin cfg0.N) (n : Fin 12288) (j : Fin 128) :
    (k0_pay1 (k0_pay4 (iblk m c 0 t) (iblk m c 1 t) (iblk m c 3 t) (iblk m c 2 t)) : S12288x128.Idx → EReal) (ix2 n j)
      = Spec.laneAt (x m c) (w m c) (s m c) (W m c) (ws m c) n ⟨1152 + j.val, by omega⟩ := by
  rw [Body.values, lane_row]

/-- The codes. -/
theorem codes_out (t : Fin cfg0.N) (n : Fin 12288) (d : Fin 8192) :
    (k0_pay3 (iblk m c 0 t) : S12288x8192.Idx → EReal) (ix2 n d) = Spec.codeAt (x m c) (w m c) (s m c) n d := by
  rw [Body.codes, clipped_blk]

/-- The activation scale. -/
theorem act_out (t : Fin cfg0.N) : (k0_pay2 (iblk m c 3 t) : S1.Idx → EReal) (ix1 0) = s m c := by
  rw [Body.act, act_blk]

/-! ## The five arrays -/

/-- The array of codes. -/
def codesG : S12288x8192.Idx → EReal := fun y => Spec.codeAt (x m c) (w m c) (s m c) (y 0) (y 1)

/-- The array of values. -/
def valuesG : S12288x128.Idx → EReal := fun y =>
  Spec.laneAt (x m c) (w m c) (s m c) (W m c) (ws m c) (y 0) ⟨1152 + (y 1).val, Nat.add_lt_add_left (m := 128) (show (y 1).val < 128 from (y 1).isLt) 1152⟩

/-- The array of keys. -/
def keysG : S12288x128.Idx → EReal := fun y => Spec.headAt (x m c) (w m c) (s m c) (W m c) (ws m c) (p m c) freq (y 0) 8 (y 1)

/-- The array of queries. -/
def queriesG : S12288x8x128.Idx → EReal := fun y =>
  Spec.headAt (x m c) (w m c) (s m c) (W m c) (ws m c) (p m c) freq (y 0) ⟨(y 1).val, lt_of_lt_of_le (show (y 1).val < 8 from (y 1).isLt) (by norm_num)⟩ (y 2)

/-- What the one point leaves in the codes' array. -/
theorem codes_arr : (dats m 0 c).arrAt 9 cfg0.N = codesG m c := by
  refine (dats m 0 c).arrAt_eq_of_covers 9 _ (by decide +kernel) fun t hf y => ?_
  have e : ((win0_9.blk t).view.emb y : S12288x8192.Idx) = ix2 (y 0) (y 1) := by blk_ext [idx t]
  blk_simp
  rw [after0_9]
  frame_out
  refine (congrArg (k0_pay3 (iblk m c 0 t) : S12288x8192.Idx → EReal) (ValueIdx.eq_ix2 (n0 := 12288) (n1 := 8192) y)).trans ?_
  refine (codes_out m c t (y 0) (y 1)).trans ?_
  exact (congrArg (codesG m c) e).symm

/-- What the one point leaves in the values' array. -/
theorem values_arr : (dats m 0 c).arrAt 8 cfg0.N = valuesG m c := by
  refine (dats m 0 c).arrAt_eq_of_covers 8 _ (by decide +kernel) fun t hf y => ?_
  have e : ((win0_8.blk t).view.emb y : S12288x128.Idx) = ix2 (y 0) (y 1) := by blk_ext [idx t]
  blk_simp
  rw [after0_8]
  frame_out
  refine (congrArg (k0_pay1 (k0_pay4 (iblk m c 0 t) (iblk m c 1 t) (iblk m c 3 t) (iblk m c 2 t)) : S12288x128.Idx → EReal) (ValueIdx.eq_ix2 (n0 := 12288) (n1 := 128) y)).trans ?_
  refine (values_out m c t (y 0) (y 1)).trans ?_
  exact (congrArg (valuesG m c) e).symm

/-- What the one point leaves in the keys' array. -/
theorem keys_arr : (dats m 0 c).arrAt 7 cfg0.N = keysG m c := by
  refine (dats m 0 c).arrAt_eq_of_covers 7 _ (by decide +kernel) fun t hf y => ?_
  have e : ((win0_7.blk t).view.emb y : S12288x128.Idx) = ix2 (y 0) (y 1) := by blk_ext [idx t]
  blk_simp
  rw [after0_7]
  frame_out
  refine (congrArg (k0_pay7 (iblk m c 0 t) (iblk m c 1 t) (iblk m c 3 t) (iblk m c 2 t) (iblk m c 4 t) (iblk m c 5 t) : S12288x128.Idx → EReal) (ValueIdx.eq_ix2 (n0 := 12288) (n1 := 128) y)).trans ?_
  refine (keys_out m c t (y 0) (y 1)).trans ?_
  exact (congrArg (keysG m c) e).symm

/-- What the one point leaves in the queries' array. -/
theorem queries_arr : (dats m 0 c).arrAt 6 cfg0.N = queriesG m c := by
  refine (dats m 0 c).arrAt_eq_of_covers 6 _ (by decide +kernel) fun t hf y => ?_
  have e : ((win0_6.blk t).view.emb y : S12288x8x128.Idx) = ix3 (y 0) (y 1) (y 2) := by blk_ext [idx t]
  blk_simp
  rw [after0_6]
  frame_out
  refine (congrArg (k0_pay6 (iblk m c 0 t) (iblk m c 1 t) (iblk m c 3 t) (iblk m c 2 t) (iblk m c 4 t) (iblk m c 5 t) : S12288x8x128.Idx → EReal) (ValueIdx.eq_ix3 (n0 := 12288) (n1 := 8) (n2 := 128) y)).trans ?_
  refine (queries_out m c t (y 0) (y 1) (y 2)).trans ?_
  exact (congrArg (queriesG m c) e).symm

/-- The activation scale. -/
theorem act_arr : (dats m 0 c).arrAt 10 cfg0.N = (fun _ => s m c : S1.Idx → EReal) := by
  refine (dats m 0 c).arrAt_eq_of_covers 10 _ (by decide +kernel) fun t hf y => ?_
  blk_simp
  rw [after0_10]
  frame_out
  have h : ∀ i : S1.Idx, i = ix1 0 := fun i => by
    rw [ValueIdx.eq_ix1 i]
    exact congrArg ix1 (Subsingleton.elim (α := Fin 1) _ _)
  exact (congrArg (k0_pay2 (iblk m c 3 t) : S1.Idx → EReal) (h _)).trans (act_out m c t)

end Cert.ReferenceIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Lib.Claim
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-! ## The two programs' results are one function of the arguments -/

section Same

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories agree on the six arguments. -/
def Agree : Prop := ∀ c : Dev KernelIdeal.nD,
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m'} (h : Agree m m') (c : Dev KernelIdeal.nD)

include h

/-- The inputs agree. -/
theorem x_eq : ReferenceIdeal.Result.x m' c = KernelIdeal.Result.x m c :=
  funext fun b => funext fun t => funext fun d => congrFun (h c).1 (ix3 b t d)

/-- The norm's weights agree. -/
theorem w_eq : ReferenceIdeal.Result.w m' c = KernelIdeal.Result.w m c :=
  funext fun d => congrFun (h c).2.1 (ix1 d)

/-- The projection's weights agree. -/
theorem W_eq : ReferenceIdeal.Result.W m' c = KernelIdeal.Result.W m c :=
  funext fun d => funext fun l => congrFun (h c).2.2.1 (ix2 d l)

/-- The projection's scales agree. -/
theorem ws_eq : ReferenceIdeal.Result.ws m' c = KernelIdeal.Result.ws m c :=
  funext fun l => congrFun (h c).2.2.2.1 (ix1 l)

/-- The positions agree. -/
theorem p_eq : ReferenceIdeal.Result.p m' c = KernelIdeal.Result.p m c :=
  funext fun b => funext fun t => congrFun (h c).2.2.2.2.1 (ix2 b t)

/-- The activation scales agree. -/
theorem s_eq : ReferenceIdeal.Result.s m' c = KernelIdeal.Result.s m c :=
  congrFun (h c).2.2.2.2.2 ix0

omit h in
/-- The two constants agree on the first 64 lanes. -/
theorem lit_eq : ∀ j : Fin 64, ReferenceIdeal.lit0 j = KernelIdeal.lit0 ⟨j.val, by omega⟩ := by decide +kernel

omit h in
/-- The frequencies agree. -/
theorem freq_eq : ReferenceIdeal.Result.freq = KernelIdeal.Result.freq :=
  funext fun j => congrArg (Ideal.ofBits .f32) (lit_eq j)

/-- The codes agree. -/
theorem codes_eq : ReferenceIdeal.Result.codesG m' c = KernelIdeal.Result.codesG m c := by
  unfold ReferenceIdeal.Result.codesG KernelIdeal.Result.codesG
  rw [x_eq h, w_eq h, s_eq h]

/-- The values agree. -/
theorem values_eq : ReferenceIdeal.Result.valuesG m' c = KernelIdeal.Result.valuesG m c := by
  unfold ReferenceIdeal.Result.valuesG KernelIdeal.Result.valuesG
  rw [x_eq h, w_eq h, s_eq h, W_eq h, ws_eq h]

/-- The keys agree. -/
theorem keys_eq : ReferenceIdeal.Result.keysG m' c = KernelIdeal.Result.keysG m c := by
  unfold ReferenceIdeal.Result.keysG KernelIdeal.Result.keysG
  rw [x_eq h, w_eq h, s_eq h, W_eq h, ws_eq h, p_eq h, freq_eq]

/-- The queries agree. -/
theorem queries_eq : ReferenceIdeal.Result.queriesG m' c = KernelIdeal.Result.queriesG m c := by
  unfold ReferenceIdeal.Result.queriesG KernelIdeal.Result.queriesG
  rw [x_eq h, w_eq h, s_eq h, W_eq h, ws_eq h, p_eq h, freq_eq]

end Same

/-! ## The claims -/

/-- The kernel over the reals and the reference over the reals end with equal results. -/
theorem algebraic : algebraic_KernelIdeal_ReferenceIdeal := by
  intro m g m' g' _ hagree
  have hag : Agree m m' := hagree
  refine ⟨fun c => KernelIdeal.Result.queriesG m c, fun c => KernelIdeal.Result.keysG m c, fun c => KernelIdeal.Result.valuesG m c,
    fun c => KernelIdeal.Result.codesG m c, fun c => fun _ => KernelIdeal.Result.s m c, ?_, ?_⟩
  · refine (θ_run _ _ _).mono (fun r h c => ?_) (KernelIdeal.Value.run_blocks m g)
    obtain ⟨h₀, h₁, h₂, h₃, h₄, hargs⟩ := h c
    exact ⟨h₀.trans (KernelIdeal.Result.queries_arr m c), h₁.trans (KernelIdeal.Result.keys_arr m c), h₂.trans (KernelIdeal.Result.values_arr m c),
      h₃.trans (KernelIdeal.Result.codes_arr m c), h₄.trans (KernelIdeal.Result.act_arr m c), hargs⟩
  · refine (θ_run _ _ _).mono (fun r h c => ?_) (ReferenceIdeal.Value.run_blocks m' g')
    obtain ⟨h₀, h₁, h₂, h₃, h₄, hargs⟩ := h c
    exact ⟨h₀.trans ((ReferenceIdeal.Result.queries_arr m' c).trans (queries_eq hag c)), h₁.trans ((ReferenceIdeal.Result.keys_arr m' c).trans (keys_eq hag c)),
      h₂.trans ((ReferenceIdeal.Result.values_arr m' c).trans (values_eq hag c)), h₃.trans ((ReferenceIdeal.Result.codes_arr m' c).trans (codes_eq hag c)),
      h₄.trans ((ReferenceIdeal.Result.act_arr m' c).trans (funext fun _ => s_eq hag c)), hargs⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  ⟨IdealRules.bf16_pair.packStatement _, IdealRules.bf16_pair.statement _ _⟩, algebraic⟩

end Cert.Proof

end
